-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_normalized [hPre_normalized : Cert.Pre_normalized.Facts] (m : (ℓ : Loc Cert.KernelIdeal.nD Cert.KernelIdeal.τ Cert.KernelIdeal.sig) → Buf (Elt Ideal) ℓ) : Prop :=
  ∀ c : Dev Cert.KernelIdeal.nD,
    (Cert.Pre_normalized.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_normalized [hPre_normalized : Cert.Pre_normalized.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_normalized.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_normalized [hKernelIdeal : Cert.KernelIdeal.Facts] [hPre_normalized : Cert.Pre_normalized.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_normalized m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_normalized [hReferenceIdeal : Cert.ReferenceIdeal.Facts] [hPre_normalized : Cert.Pre_normalized.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_normalized m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "inv_background" .f32 0x41A80000#32 ((268435456 / 12782641 : ℝ) : EReal)
  ∧ IdealRules.named_const.Statement Cert.KernelIdeal.κ "inv_log2_a" .f32 0x3E692264#32 (((Real.log 21)⁻¹ * (8388608 / 12102203) : ℝ) : EReal)
  ∧ IdealRules.named_const.Statement Cert.KernelIdeal.κ "eps_row" .f32 0x32B4637D#32 ((189151179 / 9007199254740992 : ℝ) : EReal)

def algebraic_KernelIdeal_ReferenceIdeal_pre_normalized [hKernelIdeal : Cert.KernelIdeal.Facts] [hReferenceIdeal : Cert.ReferenceIdeal.Facts] [hPre_normalized : Cert.Pre_normalized.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_normalized m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v83) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_normalized : Cert.Pre_normalized.Facts),
    quiescent_Kernel (hKernel := hKernel)
    ∧ quiescent_KernelIdeal (hKernelIdeal := hKernelIdeal)
    ∧ quiescent_KernelIdeal_pre_normalized (hKernelIdeal := hKernelIdeal) (hPre_normalized := hPre_normalized)
    ∧ quiescent_ReferenceIdeal (hReferenceIdeal := hReferenceIdeal)
    ∧ quiescent_ReferenceIdeal_pre_normalized (hReferenceIdeal := hReferenceIdeal) (hPre_normalized := hPre_normalized)
    ∧ preserves_Kernel_KernelIdeal
    ∧ algebraic_KernelIdeal_ReferenceIdeal_pre_normalized (hKernelIdeal := hKernelIdeal) (hReferenceIdeal := hReferenceIdeal) (hPre_normalized := hPre_normalized)
-- ==== Pre_normalized.lean ====
abbrev S512x256x21 : Shape := ⟨3, ![512, 256, 21]⟩
abbrev S_ : Shape := ⟨0, ![]⟩
abbrev S512x256 : Shape := ⟨2, ![512, 256]⟩

class Facts : Prop where
  reducesTo_S512x256x21_S512x256_d2 : S512x256x21.ReducesTo [2] S512x256
  h_S_ : 0 < S_.numel
  bcast_S_S512x256 : S_.BroadcastsInDim S512x256 (![] : Fin 0 → Fin S512x256.rank)

variable [Facts]

def fn {F : FTy → Type} [FloatOps F] (main_arg0 : FVec F S512x256x21 .f32) : IVec S512x256 1 :=
  let main_cst : FVec F S_ .f32 := constant S_ .f32 0x00000000#32
  let main_v0 : FVec F S512x256 .f32 := (fun x v => Host.reduceAdd x v reducesTo_S512x256x21_S512x256_d2 h_S_) main_arg0 main_cst
  let main_cst_0 : FVec F S_ .f32 := constant S_ .f32 0x3F800000#32
  let main_v1 : FVec F S512x256 .f32 := broadcastInDim S512x256 ![] bcast_S_S512x256 main_cst_0
  let main_v2 : IVec S512x256 1 := cmpf .oeq main_v0 main_v1
  main_v2
-- ==== Kernel.lean ====
abbrev S512x256x21 : Shape := ⟨3, ![512, 256, 21]⟩
abbrev S512x4x64x21 : Shape := ⟨4, ![512, 4, 64, 21]⟩
abbrev S4x21x64x512 : Shape := ⟨4, ![4, 21, 64, 512]⟩
abbrev S4x1344x512 : Shape := ⟨3, ![4, 1344, 512]⟩
abbrev S256x21 : Shape := ⟨2, ![256, 21]⟩
abbrev S1x256 : Shape := ⟨2, ![1, 256]⟩
abbrev S256x256 : Shape := ⟨2, ![256, 256]⟩
abbrev S10x64x64 : Shape := ⟨3, ![10, 64, 64]⟩
abbrev S256x128 : Shape := ⟨2, ![256, 128]⟩
abbrev S1x1344x512 : Shape := ⟨3, ![1, 1344, 512]⟩
abbrev S1344x512 : Shape := ⟨2, ![1344, 512]⟩
abbrev S1344x1344 : Shape := ⟨2, ![1344, 1344]⟩
abbrev S1344x128 : Shape := ⟨2, ![1344, 128]⟩
abbrev S1344x64 : Shape := ⟨2, ![1344, 64]⟩
abbrev S64x64 : Shape := ⟨2, ![64, 64]⟩
abbrev S1x64x64 : Shape := ⟨3, ![1, 64, 64]⟩
abbrev S512x128 : Shape := ⟨2, ![512, 128]⟩
abbrev S64x128 : Shape := ⟨2, ![64, 128]⟩
abbrev S256 : Shape := ⟨1, ![256]⟩
abbrev S256x1 : Shape := ⟨2, ![256, 1]⟩
abbrev S64x256 : Shape := ⟨2, ![64, 256]⟩
abbrev S1x256x256 : Shape := ⟨3, ![1, 256, 256]⟩
abbrev S1 : Shape := ⟨1, ![1]⟩
abbrev S1x1x1 : Shape := ⟨3, ![1, 1, 1]⟩

abbrev nBuf : Space → Nat
  | .hbm => 9
  | .vmem => 6
  | .smem => 0
  | _ => 0

abbrev bufTy : (tb : Table) → Fin (tcTables nBuf tb) → BufTy
  | .hbm, ⟨0, _⟩ => ⟨S512x256x21, .f32⟩
  | .hbm, ⟨1, _⟩ => ⟨S512x256x21, .bf16⟩
  | .hbm, ⟨2, _⟩ => ⟨S512x4x64x21, .bf16⟩
  | .hbm, ⟨3, _⟩ => ⟨S4x21x64x512, .bf16⟩
  | .hbm, ⟨4, _⟩ => ⟨S4x1344x512, .bf16⟩
  | .hbm, ⟨5, _⟩ => ⟨S256x21, .f32⟩
  | .hbm, ⟨6, _⟩ => ⟨S1x256, .f32⟩
  | .hbm, ⟨7, _⟩ => ⟨S256x256, .f32⟩
  | .hbm, ⟨8, _⟩ => ⟨S256, .f32⟩
  | .local _ .vmem, ⟨0, _⟩ => ⟨S4x1344x512, .bf16⟩
  | .local _ .vmem, ⟨1, _⟩ => ⟨S256x21, .f32⟩
  | .local _ .vmem, ⟨2, _⟩ => ⟨S1x256, .f32⟩
  | .local _ .vmem, ⟨3, _⟩ => ⟨S256x256, .f32⟩
  | .local _ .vmem, ⟨4, _⟩ => ⟨S10x64x64, .f32⟩
  | .local _ .vmem, ⟨5, _⟩ => ⟨S256x128, .f32⟩
  | _, _ => ⟨S512x256x21, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4_0 : Ref sig .tc := ⟨.hbm, 5, rfl⟩
abbrev main_v4_1 : Ref sig .tc := ⟨.hbm, 6, rfl⟩
abbrev main_v4_2 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![10], ![false]⟩

def k0_off1 (i : grid0.Coords) : Fin 3 → Nat :=
  let arg0 : BitVec 32 := BitVec.ofNat 32 (i 0).val
  let c4_i32 : BitVec 32 := 4#32
  let v0 : BitVec 1 := Scalar.cmpi .sge arg0 c4_i32
  let v1 : BitVec 32 := Scalar.extui v0
  let c7_i32 : BitVec 32 := 7#32
  let v2 : BitVec 1 := Scalar.cmpi .sge arg0 c7_i32
  let v3 : BitVec 32 := Scalar.extui v2
  let v4 : BitVec 32 := Scalar.addi v1 v3
  let c9_i32 : BitVec 32 := 9#32
  let v5 : BitVec 1 := Scalar.cmpi .sge arg0 c9_i32
  let v6 : BitVec 32 := Scalar.extui v5
  let v7 : BitVec 32 := Scalar.addi v4 v6
  let v29 : Index := Scalar.indexCast v7
  let c0 : Index := 0#32
  let c0_5 : Index := 0#32
  ![v29.toNat, 0, 0]
def k0_off2 (i : grid0.Coords) : Fin 3 → Nat :=
  let arg0 : BitVec 32 := BitVec.ofNat 32 (i 0).val
  let c4_i32 : BitVec 32 := 4#32
  let v0 : BitVec 1 := Scalar.cmpi .sge arg0 c4_i32
  let v1 : BitVec 32 := Scalar.extui v0
  let c7_i32 : BitVec 32 := 7#32
  let v2 : BitVec 1 := Scalar.cmpi .sge arg0 c7_i32
  let v3 : BitVec 32 := Scalar.extui v2
  let v4 : BitVec 32 := Scalar.addi v1 v3
  let c9_i32 : BitVec 32 := 9#32
  let v5 : BitVec 1 := Scalar.cmpi .sge arg0 c9_i32
  let v6 : BitVec 32 := Scalar.extui v5
  let v7 : BitVec 32 := Scalar.addi v4 v6
  let c9_i32_0 : BitVec 32 := 9#32
  let v8 : BitVec 32 := Scalar.subi c9_i32_0 v7
  let v9 : BitVec 32 := Scalar.muli v7 v8
  let c0_i32 : BitVec 32 := 0#32
  let v11 : BitVec 1 := Scalar.cmpi .sgt v9 c0_i32
  let v12 : BitVec 32 := Scalar.extui v11
  let c0_i32_1 : BitVec 32 := 0#32
  let v13 : BitVec 1 := Scalar.cmpi .slt v9 c0_i32_1
  let v14 : BitVec 32 := Scalar.extui v13
  let v15 : BitVec 32 := Scalar.subi v12 v14
  let c2_i32 : BitVec 32 := 2#32
  let c0_i32_2 : BitVec 32 := 0#32
  let v16 : BitVec 1 := Scalar.cmpi .sgt c2_i32 c0_i32_2
  let v17 : BitVec 32 := Scalar.extui v16
  let c0_i32_3 : BitVec 32 := 0#32
  let v18 : BitVec 1 := Scalar.cmpi .slt c2_i32 c0_i32_3
  let v19 : BitVec 32 := Scalar.extui v18
  let v20 : BitVec 32 := Scalar.subi v17 v19
  let v21 : BitVec 1 := Scalar.cmpi .ne v15 v20
  let v22 : BitVec 32 := Scalar.remsi v9 c2_i32
  let c0_i32_4 : BitVec 32 := 0#32
  let v23 : BitVec 1 := Scalar.cmpi .ne v22 c0_i32_4
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let v27 : BitVec 32 := Scalar.subi arg0 v26
  let v28 : BitVec 32 := Scalar.addi v27 v7
  let v32 : Index := Scalar.indexCast v28
  let c0_6 : Index := 0#32
  let c0_7 : Index := 0#32
  ![v32.toNat, 0, 0]
def k0_off3 (i : grid0.Coords) : Fin 3 → Nat :=
  let arg0 : BitVec 32 := BitVec.ofNat 32 (i 0).val
  let v109 : Index := Scalar.indexCast arg0
  let c0_11 : Index := 0#32
  let c0_12 : Index := 0#32
  ![v109.toNat, 0, 0]
def k0_cond1 (i : grid0.Coords) : BitVec 1 :=
  let arg0 : BitVec 32 := BitVec.ofNat 32 (i 0).val
  let c4_i32 : BitVec 32 := 4#32
  let v0 : BitVec 1 := Scalar.cmpi .sge arg0 c4_i32
  let v1 : BitVec 32 := Scalar.extui v0
  let c7_i32 : BitVec 32 := 7#32
  let v2 : BitVec 1 := Scalar.cmpi .sge arg0 c7_i32
  let v3 : BitVec 32 := Scalar.extui v2
  let v4 : BitVec 32 := Scalar.addi v1 v3
  let c9_i32 : BitVec 32 := 9#32
  let v5 : BitVec 1 := Scalar.cmpi .sge arg0 c9_i32
  let v6 : BitVec 32 := Scalar.extui v5
  let v7 : BitVec 32 := Scalar.addi v4 v6
  let c9_i32_0 : BitVec 32 := 9#32
  let v8 : BitVec 32 := Scalar.subi c9_i32_0 v7
  let v9 : BitVec 32 := Scalar.muli v7 v8
  let c0_i32 : BitVec 32 := 0#32
  let v11 : BitVec 1 := Scalar.cmpi .sgt v9 c0_i32
  let v12 : BitVec 32 := Scalar.extui v11
  let c0_i32_1 : BitVec 32 := 0#32
  let v13 : BitVec 1 := Scalar.cmpi .slt v9 c0_i32_1
  let v14 : BitVec 32 := Scalar.extui v13
  let v15 : BitVec 32 := Scalar.subi v12 v14
  let c2_i32 : BitVec 32 := 2#32
  let c0_i32_2 : BitVec 32 := 0#32
  let v16 : BitVec 1 := Scalar.cmpi .sgt c2_i32 c0_i32_2
  let v17 : BitVec 32 := Scalar.extui v16
  let c0_i32_3 : BitVec 32 := 0#32
  let v18 : BitVec 1 := Scalar.cmpi .slt c2_i32 c0_i32_3
  let v19 : BitVec 32 := Scalar.extui v18
  let v20 : BitVec 32 := Scalar.subi v17 v19
  let v21 : BitVec 1 := Scalar.cmpi .ne v15 v20
  let v22 : BitVec 32 := Scalar.remsi v9 c2_i32
  let c0_i32_4 : BitVec 32 := 0#32
  let v23 : BitVec 1 := Scalar.cmpi .ne v22 c0_i32_4
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let v27 : BitVec 32 := Scalar.subi arg0 v26
  let v28 : BitVec 32 := Scalar.addi v27 v7
  let v113 : BitVec 1 := Scalar.cmpi .eq v7 v28
  let v114 : BitVec 32 := Scalar.extui v113
  let c0_i32_13 : BitVec 32 := 0#32
  let v115 : BitVec 1 := Scalar.cmpi .ne v114 c0_i32_13
  v115

def k0_off4 (i : grid0.Coords) : Fin 2 → Nat :=
  let arg0 : BitVec 32 := BitVec.ofNat 32 (i 0).val
  let c4_i32 : BitVec 32 := 4#32
  let v0 : BitVec 1 := Scalar.cmpi .sge arg0 c4_i32
  let v1 : BitVec 32 := Scalar.extui v0
  let c7_i32 : BitVec 32 := 7#32
  let v2 : BitVec 1 := Scalar.cmpi .sge arg0 c7_i32
  let v3 : BitVec 32 := Scalar.extui v2
  let v4 : BitVec 32 := Scalar.addi v1 v3
  let c9_i32 : BitVec 32 := 9#32
  let v5 : BitVec 1 := Scalar.cmpi .sge arg0 c9_i32
  let v6 : BitVec 32 := Scalar.extui v5
  let v7 : BitVec 32 := Scalar.addi v4 v6
  let c64_i32 : BitVec 32 := 64#32
  let v247 : BitVec 32 := Scalar.muli v7 c64_i32
  let v248 : Index := Scalar.indexCast v247
  let c0_45 : Index := 0#32
  ![v248.toNat, 0]
def k0_cond2 (i : grid0.Coords) : BitVec 1 :=
  let arg0 : BitVec 32 := BitVec.ofNat 32 (i 0).val
  let c9_i32_14 : BitVec 32 := 9#32
  let v116 : BitVec 1 := Scalar.cmpi .eq arg0 c9_i32_14
  let v117 : BitVec 32 := Scalar.extui v116
  let c0_i32_15 : BitVec 32 := 0#32
  let v118 : BitVec 1 := Scalar.cmpi .ne v117 c0_i32_15
  v118

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4x1344x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x21 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== KernelIdeal.lean ====
variable {F : FTy → Type} [FloatOps F] [Named F]
def κ : String → Option EReal := fun
  | "eps_row" => some ((189151179 / 9007199254740992 : ℝ) : EReal)
  | "inv_background" => some ((268435456 / 12782641 : ℝ) : EReal)
  | "inv_log2_a" => some (((Real.log 21)⁻¹ * (8388608 / 12102203) : ℝ) : EReal)
  | _ => none
-- ==== ReferenceIdeal.lean ====
abbrev S512x256x21 : Shape := ⟨3, ![512, 256, 21]⟩
abbrev S_ : Shape := ⟨0, ![]⟩
abbrev S256x21 : Shape := ⟨2, ![256, 21]⟩
abbrev S256 : Shape := ⟨1, ![256]⟩
abbrev S256x1 : Shape := ⟨2, ![256, 1]⟩
abbrev S256x21x256x21 : Shape := ⟨4, ![256, 21, 256, 21]⟩
abbrev S256x256x21x21 : Shape := ⟨4, ![256, 256, 21, 21]⟩
abbrev S256x256 : Shape := ⟨2, ![256, 256]⟩
abbrev S256x256x21 : Shape := ⟨3, ![256, 256, 21]⟩
abbrev S1x256 : Shape := ⟨2, ![1, 256]⟩

abbrev nBuf : Space → Nat
  | .hbm => 118
  | .vmem => 0
  | .smem => 0
  | _ => 0

abbrev bufTy : (tb : Table) → Fin (tcTables nBuf tb) → BufTy
  | .hbm, ⟨0, _⟩ => ⟨S512x256x21, .f32⟩
  | .hbm, ⟨1, _⟩ => ⟨S_, .f32⟩
  | .hbm, ⟨2, _⟩ => ⟨S256x21, .f32⟩
  | .hbm, ⟨3, _⟩ => ⟨S_, .f32⟩
  | .hbm, ⟨4, _⟩ => ⟨S256x21, .f32⟩
  | .hbm, ⟨5, _⟩ => ⟨S256x21, .f32⟩
  | .hbm, ⟨6, _⟩ => ⟨S_, .f32⟩
  | .hbm, ⟨7, _⟩ => ⟨S256x21, .f32⟩
  | .hbm, ⟨8, _⟩ => ⟨S256x21, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S256x21, .f32⟩
  | .hbm, ⟨13, _⟩ => ⟨S256x21, .f32⟩
  | .hbm, ⟨14, _⟩ => ⟨S_, .f32⟩
  | .hbm, ⟨15, _⟩ => ⟨S256x21, .f32⟩
  | .hbm, ⟨16, _⟩ => ⟨S256x21, .f32⟩
  | .hbm, ⟨17, _⟩ => ⟨S256x21, .f32⟩
  | .hbm, ⟨18, _⟩ => ⟨S_, .f32⟩
  | .hbm, ⟨19, _⟩ => ⟨S256x21, .f32⟩
  | .hbm, ⟨20, _⟩ => ⟨S256x21, .f32⟩
  | .hbm, ⟨21, _⟩ => ⟨S_, .f32⟩
  | .hbm, ⟨22, _⟩ => ⟨S256x21, .f32⟩
  | .hbm, ⟨23, _⟩ => ⟨S_, .f32⟩
  | .hbm, ⟨24, _⟩ => ⟨S256x21, .f32⟩
  | .hbm, ⟨25, _⟩ => ⟨S256x21, .f32⟩
  | .hbm, ⟨26, _⟩ => ⟨S_, .f32⟩
  | .hbm, ⟨27, _⟩ => ⟨S256x21, .f32⟩
  | .hbm, ⟨28, _⟩ => ⟨S256x21, .f32⟩
  | .hbm, ⟨29, _⟩ => ⟨S256x21, .f32⟩
  | .hbm, ⟨30, _⟩ => ⟨S_, .f32⟩
  | .hbm, ⟨31, _⟩ => ⟨S256x21, .f32⟩
  | .hbm, ⟨32, _⟩ => ⟨S256x21, .f32⟩
  | .hbm, ⟨33, _⟩ => ⟨S256x21, .f32⟩
  | .hbm, ⟨34, _⟩ => ⟨S_, .f32⟩
  | .hbm, ⟨35, _⟩ => ⟨S256, .f32⟩
  | .hbm, ⟨36, _⟩ => ⟨S256, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S256, .f32⟩
  | .hbm, ⟨43, _⟩ => ⟨S256, .f32⟩
  | .hbm, ⟨44, _⟩ => ⟨S_, .f32⟩
  | .hbm, ⟨45, _⟩ => ⟨S256, .f32⟩
  | .hbm, ⟨46, _⟩ => ⟨S256, .f32⟩
  | .hbm, ⟨47, _⟩ => ⟨S256x21x256x21, .f32⟩
  | .hbm, ⟨48, _⟩ => ⟨S256x256x21x21, .f32⟩
  | .hbm, ⟨49, _⟩ => ⟨S_, .f32⟩
  | .hbm, ⟨50, _⟩ => ⟨S256x256x21x21, .f32⟩
  | .hbm, ⟨51, _⟩ => ⟨S256x256x21x21, .f32⟩
  | .hbm, ⟨52, _⟩ => ⟨S_, .f32⟩
  | .hbm, ⟨53, _⟩ => ⟨S256x256x21x21, .f32⟩
  | .hbm, ⟨54, _⟩ => ⟨S256x256x21x21, .f32⟩
  | .hbm, ⟨55, _⟩ => ⟨S_, .f32⟩
  | .hbm, ⟨56, _⟩ => ⟨S256x21, .f32⟩
  | .hbm, ⟨57, _⟩ => ⟨S_, .f32⟩
  | .hbm, ⟨58, _⟩ => ⟨S256x21, .f32⟩
  | .hbm, ⟨59, _⟩ => ⟨S256x21, .f32⟩
  | .hbm, ⟨60, _⟩ => ⟨S_, .f32⟩
  | .hbm, ⟨61, _⟩ => ⟨S256x21, .f32⟩
  | .hbm, ⟨62, _⟩ => ⟨S256x21, .f32⟩
  | .hbm, ⟨63, _⟩ => ⟨S256x21, .f32⟩
  | .hbm, ⟨64, _⟩ => ⟨S_, .f32⟩
  | .hbm, ⟨65, _⟩ => ⟨S256x21, .f32⟩
  | .hbm, ⟨66, _⟩ => ⟨S256x21, .f32⟩
  | .hbm, ⟨67, _⟩ => ⟨S256x256x21x21, .f32⟩
  | .hbm, ⟨68, _⟩ => ⟨S_, .f32⟩
  | .hbm, ⟨69, _⟩ => ⟨S256x256x21x21, .f32⟩
  | .hbm, ⟨70, _⟩ => ⟨S256x256x21x21, .f32⟩
  | .hbm, ⟨71, _⟩ => ⟨S256x256x21x21, .f32⟩
  | .hbm, ⟨72, _⟩ => ⟨S_, .f32⟩
  | .hbm, ⟨73, _⟩ => ⟨S256x256, .f32⟩
  | .hbm, ⟨74, _⟩ => ⟨S_, .f32⟩
  | .hbm, ⟨75, _⟩ => ⟨S256x256x21, .f32⟩
  | .hbm, ⟨76, _⟩ => ⟨S256x256, .f32⟩
  | .hbm, ⟨77, _⟩ => ⟨S256x256, .f32⟩
  | .hbm, ⟨78, _⟩ => ⟨S_, .f32⟩
  | .hbm, ⟨79, _⟩ => ⟨S256x256x21, .f32⟩
  | .hbm, ⟨80, _⟩ => ⟨S256x256, .f32⟩
  | .hbm, ⟨81, _⟩ => ⟨S256x256, .f32⟩
  | .hbm, ⟨82, _⟩ => ⟨S256x256, .f32⟩
  | .hbm, ⟨83, _⟩ => ⟨S256x256, .i32⟩
  | .hbm, ⟨84, _⟩ => ⟨S256x256, .i32⟩
  | .hbm, ⟨85, _⟩ => ⟨S_, .i32⟩
  | .hbm, ⟨86, _⟩ => ⟨S256x256, .i32⟩
  | .hbm, ⟨87, _⟩ => ⟨S256x256, .i32⟩
  | .hbm, ⟨88, _⟩ => ⟨S256x256, .i1⟩
  | .hbm, ⟨89, _⟩ => ⟨S256x256, .f32⟩
  | .hbm, ⟨90, _⟩ => ⟨S_, .f32⟩
  | .hbm, ⟨91, _⟩ => ⟨S256x256, .f32⟩
  | .hbm, ⟨92, _⟩ => ⟨S256x256, .f32⟩
  | .hbm, ⟨93, _⟩ => ⟨S256x256, .f32⟩
  | .hbm, ⟨94, _⟩ => ⟨S_, .f32⟩
  | .hbm, ⟨95, _⟩ => ⟨S256, .f32⟩
  | .hbm, ⟨96, _⟩ => ⟨S_, .f32⟩
  | .hbm, ⟨97, _⟩ => ⟨S256, .f32⟩
  | .hbm, ⟨98, _⟩ => ⟨S256, .f32⟩
  | .hbm, ⟨99, _⟩ => ⟨S_, .f32⟩
  | .hbm, ⟨100, _⟩ => ⟨S256, .f32⟩
  | .hbm, ⟨101, _⟩ => ⟨S_, .f32⟩
  | .hbm, ⟨102, _⟩ => ⟨S256, .f32⟩
  | .hbm, ⟨103, _⟩ => ⟨S256, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S256x1, .f32⟩
  | .hbm, ⟨109, _⟩ => ⟨S1x256, .f32⟩
  | .hbm, ⟨110, _⟩ => ⟨S256x256, .f32⟩
  | .hbm, ⟨111, _⟩ => ⟨S256x256, .f32⟩
  | .hbm, ⟨112, _⟩ => ⟨S256x256, .f32⟩
  | .hbm, ⟨113, _⟩ => ⟨S_, .f32⟩
  | .hbm, ⟨114, _⟩ => ⟨S_, .f32⟩
  | .hbm, ⟨115, _⟩ => ⟨S256x256, .f32⟩
  | .hbm, ⟨116, _⟩ => ⟨S256x256, .f32⟩
  | .hbm, ⟨117, _⟩ => ⟨S256x256, .f32⟩
  | _, _ => ⟨S512x256x21, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_cst_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_3 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_4 : Ref sig .tc := ⟨.hbm, 18, rfl⟩
abbrev main_v12 : Ref sig .tc := ⟨.hbm, 19, rfl⟩
abbrev main_v13 : Ref sig .tc := ⟨.hbm, 20, rfl⟩
abbrev main_cst_5 : Ref sig .tc := ⟨.hbm, 21, rfl⟩
abbrev main_v14 : Ref sig .tc := ⟨.hbm, 22, rfl⟩
abbrev main_cst_6 : Ref sig .tc := ⟨.hbm, 23, rfl⟩
abbrev main_v15 : Ref sig .tc := ⟨.hbm, 24, rfl⟩
abbrev main_v16 : Ref sig .tc := ⟨.hbm, 25, rfl⟩
abbrev main_cst_7 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_8 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_9 : Ref sig .tc := ⟨.hbm, 34, rfl⟩
abbrev main_v23 : Ref sig .tc := ⟨.hbm, 35, rfl⟩
abbrev main_v24 : Ref sig .tc := ⟨.hbm, 36, rfl⟩
abbrev main_cst_10 : Ref sig .tc := ⟨.hbm, 37, rfl⟩
abbrev main_v25 : Ref sig .tc := ⟨.hbm, 38, rfl⟩
abbrev main_cst_11 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_12 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_13 : Ref sig .tc := ⟨.hbm, 49, rfl⟩
abbrev main_v34 : Ref sig .tc := ⟨.hbm, 50, rfl⟩
abbrev main_v35 : Ref sig .tc := ⟨.hbm, 51, rfl⟩
abbrev main_cst_14 : Ref sig .tc := ⟨.hbm, 52, rfl⟩
abbrev main_v36 : Ref sig .tc := ⟨.hbm, 53, rfl⟩
abbrev main_v37 : Ref sig .tc := ⟨.hbm, 54, rfl⟩
abbrev main_cst_15 : Ref sig .tc := ⟨.hbm, 55, rfl⟩
abbrev main_v38 : Ref sig .tc := ⟨.hbm, 56, rfl⟩
abbrev main_cst_16 : Ref sig .tc := ⟨.hbm, 57, rfl⟩
abbrev main_v39 : Ref sig .tc := ⟨.hbm, 58, rfl⟩
abbrev main_v40 : Ref sig .tc := ⟨.hbm, 59, rfl⟩
abbrev main_cst_17 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_18 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_19 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_20 : Ref sig .tc := ⟨.hbm, 72, rfl⟩
abbrev main_v50 : Ref sig .tc := ⟨.hbm, 73, rfl⟩
abbrev main_cst_21 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_22 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_c : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_23 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_24 : Ref sig .tc := ⟨.hbm, 94, rfl⟩
abbrev main_v67 : Ref sig .tc := ⟨.hbm, 95, rfl⟩
abbrev main_cst_25 : Ref sig .tc := ⟨.hbm, 96, rfl⟩
abbrev main_v68 : Ref sig .tc := ⟨.hbm, 97, rfl⟩
abbrev main_v69 : Ref sig .tc := ⟨.hbm, 98, rfl⟩
abbrev main_cst_26 : Ref sig .tc := ⟨.hbm, 99, rfl⟩
abbrev main_v70 : Ref sig .tc := ⟨.hbm, 100, rfl⟩
abbrev main_cst_27 : Ref sig .tc := ⟨.hbm, 101, rfl⟩
abbrev main_v71 : Ref sig .tc := ⟨.hbm, 102, rfl⟩
abbrev main_v72 : Ref sig .tc := ⟨.hbm, 103, rfl⟩
abbrev main_cst_28 : Ref sig .tc := ⟨.hbm, 104, rfl⟩
abbrev main_v73 : Ref sig .tc := ⟨.hbm, 105, rfl⟩
abbrev main_cst_29 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_30 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩

abbrev nD : Nat := 1
abbrev τ : Topo := Topo.v7x

variable {F : FTy → Type} [FloatOps F]
-- ==== Proof.Steps.lean ====
/- What one grid step stores, as plain functions of the blocks it reads.
   A step multiplies two of the four blocks of the rearranged alignment and stores one tile of pair sums; a step on
   the diagonal also stores the letter counts of its block; the last step computes the three results from the ten
   tiles and the assembled counts. -/
module

public import proofs.«01_k».proof.Proof.Gen.KernelIdeal.Skeleton
public import Idealize.ShloMosaic.Lib.VecWindow

@[expose] public section

noncomputable section

namespace Cert.KernelIdeal.Hand

open Idealize.ShloMosaic Idealize.ShloMosaic.TcCoe
open Idealize.SL Idealize.SL.Sem
open Cert.KernelIdeal.Gen

variable {F : FTy → Type} [FloatOps F] [Named F]

/-- The tile of pair sums of two blocks. -/
def tileOf (b1 b2 : Vec F S1x1344x512 .bf16) : Vec F S1x64x64 .f32 :=
  k0_pay1 (k0_pay27 (k0_pay25 b1 b2) (k0_pay26 b1 b2)) (k0_pay28 (k0_pay25 b1 b2) (k0_pay26 b1 b2))
    (k0_pay29 (k0_pay25 b1 b2) (k0_pay26 b1 b2))

/-- The letter counts of a block: one row for each of its positions, one lane for each letter. -/
def countOf (b : Vec F S1x1344x512 .bf16) : Vec F S64x128 .f32 :=
  k0_pay8 (k0_pay3 (k0_pay24 b)) (iota .tc S64x128 32 [1] iota_S64x128_d1_w32)
    (k0_pay5 (k0_pay3 (k0_pay24 b)) (iota .tc S64x128 32 [1] iota_S64x128_d1_w32) (k0_pay4 (k0_pay24 b)))
    (k0_pay6 (iota .tc S64x128 32 [1] iota_S64x128_d1_w32)) (k0_pay7 (k0_pay3 (k0_pay24 b)))

/-- The pair scores before the average-product correction, from the assembled counts and the ten tiles. -/
def scoreOf (cnt : Vec F S256x128 .f32) (T : Fin 10 → Vec F S1x64x64 .f32) : FVec F S256x256 .f32 :=
  k0_pay21 (k0_pay14 cnt) (k0_pay15 cnt) (k0_pay16 (T 0) (T 1) (T 2) (T 3)) (k0_pay17 (T 1) (T 4) (T 5) (T 6))
    (k0_pay18 (T 2)) (k0_pay19 (T 5)) (k0_pay20 (T 7)) (T 8) (T 3) (T 6) (T 8) (T 9)

/-- The third result, from the assembled counts and the ten tiles. -/
def coevOf (cnt : Vec F S256x128 .f32) (T : Fin 10 → Vec F S1x64x64 .f32) : Vec F S256x256 .f32 :=
  k0_pay2 (scoreOf cnt T)
    (k0_pay22 (k0_pay14 cnt) (k0_pay15 cnt) (k0_pay16 (T 0) (T 1) (T 2) (T 3)) (k0_pay17 (T 1) (T 4) (T 5) (T 6))
      (k0_pay18 (T 2)) (k0_pay19 (T 5)) (k0_pay20 (T 7)) (T 8) (T 3) (T 6) (T 8) (T 9))
    (k0_pay23 (k0_pay14 cnt) (k0_pay15 cnt) (k0_pay16 (T 0) (T 1) (T 2) (T 3)) (k0_pay17 (T 1) (T 4) (T 5) (T 6))
      (k0_pay18 (T 2)) (k0_pay19 (T 5)) (k0_pay20 (T 7)) (T 8) (T 3) (T 6) (T 8) (T 9))
    (Scalar.ofBits .f32 0x3089705F#32)

end Cert.KernelIdeal.Hand

end
-- ==== Proof.Body.lean ====
/- The kernel body's triples, one for each kind of grid step: off the diagonal, on the diagonal before the last
   step, and the last step. -/
module

public import proofs.«01_k».proof.Proof.Steps
public import proofs.«01_k».proof.Proof.Gen.KernelIdeal.Frame

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The first block a step reads. -/
abbrev blockI (x0 : Vec F S4x1344x512 .bf16) (i : grid0.Coords) : Vec F S1x1344x512 .bf16 :=
  VecWindow.window x0 (k0_off1 i) S1x1344x512.size (k0_off1_inb i)
/-- The second block a step reads. -/
abbrev blockJ (x0 : Vec F S4x1344x512 .bf16) (i : grid0.Coords) : Vec F S1x1344x512 .bf16 :=
  VecWindow.window x0 (k0_off2 i) S1x1344x512.size (k0_off2_inb i)

/-- Loading the first block reads the window of the input there. -/
theorem load_blockI (i : grid0.Coords) (arg1 : Memref sig .tc .vmem S4x1344x512 .bf16) (harg1 : arg1.IsWhole) (x0 : Vec F S4x1344x512 .bf16) :
    View.readAt (Elt F) arg1.view (Rect.unit (s := S4x1344x512) (k0_off1 i) S1x1344x512.size (k0_off1_inb i)).toLoadRect (harg1.unread x0) = blockI x0 i := by
  rw [View.readAt_unit _ _ _ rfl (k0_off1_inb i), harg1.read_unread]

/-- Loading the second block reads the window of the input there. -/
theorem load_blockJ (i : grid0.Coords) (arg1 : Memref sig .tc .vmem S4x1344x512 .bf16) (harg1 : arg1.IsWhole) (x0 : Vec F S4x1344x512 .bf16) :
    View.readAt (Elt F) arg1.view (Rect.unit (s := S4x1344x512) (k0_off2 i) S1x1344x512.size (k0_off2_inb i)).toLoadRect (harg1.unread x0) = blockJ x0 i := by
  rw [View.readAt_unit _ _ _ rfl (k0_off2_inb i), harg1.read_unread]

/-- The step's store into the tile scratch. -/
abbrev tilePiece (i : grid0.Coords) (arg1 : Memref sig .tc .vmem S4x1344x512 .bf16) (harg1 : arg1.IsWhole) (x0 : Vec F S4x1344x512 .bf16) :
    List (View.Piece (Elt F) S10x64x64 .f32) :=
  [⟨Rect.unit (s := S10x64x64) (k0_off3 i) S1x64x64.size (k0_off3_inb i),
    tileOf (View.readAt (Elt F) arg1.view (Rect.unit (s := S4x1344x512) (k0_off1 i) S1x1344x512.size (k0_off1_inb i)).toLoadRect (harg1.unread x0))
      (View.readAt (Elt F) arg1.view (Rect.unit (s := S4x1344x512) (k0_off2 i) S1x1344x512.size (k0_off2_inb i)).toLoadRect (harg1.unread x0))⟩]

/-- The step's store into the count scratch. -/
abbrev countPiece (i : grid0.Coords) (hc1 : k0_cond1 i = 1#1) (arg1 : Memref sig .tc .vmem S4x1344x512 .bf16) (harg1 : arg1.IsWhole) (x0 : Vec F S4x1344x512 .bf16) :
    List (View.Piece (Elt F) S256x128 .f32) :=
  [⟨Rect.unit (s := S256x128) (k0_off4 i) S64x128.size (k0_off4_inb i hc1),
    countOf (View.readAt (Elt F) arg1.view (Rect.unit (s := S4x1344x512) (k0_off1 i) S1x1344x512.size (k0_off1_inb i)).toLoadRect (harg1.unread x0))⟩]

/-- The tile scratch after the step's store: its tile put over what was there. -/
theorem tile_stored (i : grid0.Coords) (arg1 : Memref sig .tc .vmem S4x1344x512 .bf16) (harg1 : arg1.IsWhole)
    (arg5 : Memref sig .tc .vmem S10x64x64 .f32) (harg5 : arg5.IsWhole) (x0 : Vec F S4x1344x512 .bf16) (d5 : Vec F S10x64x64 .f32) :
    View.read (Elt F) arg5.view (arg5.view.writes (Elt F) (harg5.unread d5) (tilePiece i arg1 harg1 x0))
      = VecWindow.put d5 (k0_off3 i) S1x64x64.size (tileOf (blockI x0 i) (blockJ x0 i)) := by
  rw [View.read_writes_cons_put _ _ _ _ _ rfl, View.writes_nil, harg5.read_unread, load_blockI, load_blockJ]

/-- The count scratch after the step's store: its rows put over what was there. -/
theorem count_stored (i : grid0.Coords) (hc1 : k0_cond1 i = 1#1) (arg1 : Memref sig .tc .vmem S4x1344x512 .bf16) (harg1 : arg1.IsWhole)
    (arg6 : Memref sig .tc .vmem S256x128 .f32) (harg6 : arg6.IsWhole) (x0 : Vec F S4x1344x512 .bf16) (d6 : Vec F S256x128 .f32) :
    View.read (Elt F) arg6.view (arg6.view.writes (Elt F) (harg6.unread d6) (countPiece i hc1 arg1 harg1 x0))
      = VecWindow.put d6 (k0_off4 i) S64x128.size (countOf (blockI x0 i)) := by
  rw [View.read_writes_cons_put _ _ _ _ _ rfl, View.writes_nil, harg6.read_unread, load_blockI]

/-- Tile `p` lies inside the tile scratch. -/
theorem tile_inb (p : Fin 10) : ∀ a, (![p.val, 0, 0] : Fin 3 → ℕ) a + S1x64x64.size a ≤ S10x64x64.size a := by
  revert p; decide

/-- Reading the tile the last step has just stored. -/
theorem last_tile_read (i : grid0.Coords) (hl : k0_off3 i = ![9, 0, 0]) (arg1 : Memref sig .tc .vmem S4x1344x512 .bf16) (harg1 : arg1.IsWhole)
    (arg5 : Memref sig .tc .vmem S10x64x64 .f32) (x0 : Vec F S4x1344x512 .bf16) (d5 : Vec F S10x64x64 .f32) :
    arg5.view.readCov (tilePiece i arg1 harg1 x0) (Rect.unit (s := S10x64x64) ![9, 0, 0] S1x64x64.size inb_S10x64x64_S1x64x64_9_0_0).toLoadRect
      = VecWindow.window (VecWindow.put d5 (k0_off3 i) S1x64x64.size (tileOf (blockI x0 i) (blockJ x0 i))) ![(9 : Fin 10).val, 0, 0] S1x64x64.size (tile_inb 9) := by
  unfold View.readCov
  rw [View.readAt_unit _ _ _ rfl (tile_inb 9), View.read_writes_cons_put _ _ _ _ _ rfl, load_blockI, load_blockJ, hl]
  exact (VecWindow.window_put_same _ _ _ (tile_inb 9) _).trans (VecWindow.window_put_same d5 ![9, 0, 0] S1x64x64.size (tile_inb 9) _).symm

set_option maxHeartbeats 1000000 in
/-- A step off the diagonal stores its tile and nothing else. -/
theorem body_off (c : Dev nD) (i : grid0.Coords) (arg1 : Memref sig .tc .vmem S4x1344x512 .bf16) (harg1 : arg1.IsWhole) (arg2 : Memref sig .tc .vmem S256x21 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S10x64x64 .f32) (harg5 : arg5.IsWhole) (arg6 : Memref sig .tc .vmem S256x128 .f32) (harg6 : arg6.IsWhole)
    (hc1 : ¬k0_cond1 i = 1#1) (hc2 : ¬k0_cond2 i = 1#1)
    (x0 : Vec F S4x1344x512 .bf16) (d5 : Vec F S10x64x64 .f32) (E : Set ℕ) (K : PUnit → sProp 𝕄) :
    iprop(owns (c : Thread nD τ) arg1 fullShare x0 ∗ owns (c : Thread nD τ) arg5 fullShare d5
        ∗ (iprop(owns (c : Thread nD τ) arg1 fullShare x0
            ∗ owns (c : Thread nD τ) arg5 fullShare (VecWindow.put d5 (k0_off3 i) S1x64x64.size (tileOf (blockI x0 i) (blockJ x0 i)))) -∗ K ⟨⟩))
      ⊢ wp frame (wpE (defs₀ (F := F)) Variants.none c none) E (cc0_mi_tiles i arg1 harg1 arg2 harg2 arg3 harg3 arg4 harg4 arg5 harg5 arg6 harg6) K := by
  simp only [cc0_mi_tiles_eq_skeleton]; unfold cc0_mi_tiles_skel
  simp only [k0_part7_eq_skeleton, k0_part8_eq_skeleton, k0_part1_eq_skeleton, k0_part2_eq_skeleton, k0_part3_eq_skeleton, k0_part4_eq_skeleton, k0_part5_eq_skeleton, k0_part6_eq_skeleton]
  unfold owns
  iintro ⟨⟨%f0, %hf0, H0⟩, ⟨%fs0, %hfs0, HS0⟩, Hk⟩
  obtain rfl := harg1.eq_unread hf0; obtain rfl := harg5.eq_unread hfs0
  sl_exec (disch := first | sl_exact hc1 | sl_exact hc2)
  sl_step
  iapply Hk
  isplitl [H0]
  · iexists _; isplitr; · ipureintro; exact harg1.read_unread _
    iexact H0
  · iexists _; isplitr
    swap
    · iexact HS0
    · ipureintro; exact tile_stored i arg1 harg1 arg5 harg5 x0 d5

set_option maxHeartbeats 1000000 in
/-- A step on the diagonal, before the last, stores its tile and its block's counts. -/
theorem body_diag (c : Dev nD) (i : grid0.Coords) (arg1 : Memref sig .tc .vmem S4x1344x512 .bf16) (harg1 : arg1.IsWhole) (arg2 : Memref sig .tc .vmem S256x21 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S10x64x64 .f32) (harg5 : arg5.IsWhole) (arg6 : Memref sig .tc .vmem S256x128 .f32) (harg6 : arg6.IsWhole)
    (hc1 : k0_cond1 i = 1#1) (hc2 : ¬k0_cond2 i = 1#1)
    (x0 : Vec F S4x1344x512 .bf16) (d5 : Vec F S10x64x64 .f32) (d6 : Vec F S256x128 .f32) (E : Set ℕ) (K : PUnit → sProp 𝕄) :
    iprop(owns (c : Thread nD τ) arg1 fullShare x0 ∗ owns (c : Thread nD τ) arg5 fullShare d5 ∗ owns (c : Thread nD τ) arg6 fullShare d6
        ∗ (iprop(owns (c : Thread nD τ) arg1 fullShare x0
            ∗ owns (c : Thread nD τ) arg5 fullShare (VecWindow.put d5 (k0_off3 i) S1x64x64.size (tileOf (blockI x0 i) (blockJ x0 i)))
            ∗ owns (c : Thread nD τ) arg6 fullShare (VecWindow.put d6 (k0_off4 i) S64x128.size (countOf (blockI x0 i)))) -∗ K ⟨⟩))
      ⊢ wp frame (wpE (defs₀ (F := F)) Variants.none c none) E (cc0_mi_tiles i arg1 harg1 arg2 harg2 arg3 harg3 arg4 harg4 arg5 harg5 arg6 harg6) K := by
  simp only [cc0_mi_tiles_eq_skeleton]; unfold cc0_mi_tiles_skel
  simp only [k0_part7_eq_skeleton, k0_part8_eq_skeleton, k0_part1_eq_skeleton, k0_part2_eq_skeleton, k0_part3_eq_skeleton, k0_part4_eq_skeleton, k0_part5_eq_skeleton, k0_part6_eq_skeleton]
  unfold owns
  iintro ⟨⟨%f0, %hf0, H0⟩, ⟨%fs0, %hfs0, HS0⟩, ⟨%fs1, %hfs1, HS1⟩, Hk⟩
  obtain rfl := harg1.eq_unread hf0; obtain rfl := harg5.eq_unread hfs0; obtain rfl := harg6.eq_unread hfs1
  sl_exec (disch := first | sl_exact hc1 | sl_exact hc2)
  sl_step
  iapply Hk
  isplitl [H0]
  · iexists _; isplitr; · ipureintro; exact harg1.read_unread _
    iexact H0
  isplitl [HS0]
  · iexists _; isplitr
    swap
    · iexact HS0
    · ipureintro; exact tile_stored i arg1 harg1 arg5 harg5 x0 d5
  · iexists _; isplitr
    swap
    · iexact HS1
    · ipureintro; exact count_stored i hc1 arg1 harg1 arg6 harg6 x0 d6

set_option maxHeartbeats 2000000 in
/-- The last step stores its tile and its block's counts, then the three results, computed from the ten tiles and the
    counts the scratch holds by then. -/
theorem body_last (c : Dev nD) (i : grid0.Coords) (arg1 : Memref sig .tc .vmem S4x1344x512 .bf16) (harg1 : arg1.IsWhole) (arg2 : Memref sig .tc .vmem S256x21 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S10x64x64 .f32) (harg5 : arg5.IsWhole) (arg6 : Memref sig .tc .vmem S256x128 .f32) (harg6 : arg6.IsWhole)
    (hc1 : k0_cond1 i = 1#1) (hc2 : k0_cond2 i = 1#1) (hl : k0_off3 i = ![9, 0, 0])
    (x0 : Vec F S4x1344x512 .bf16) (d5 : Vec F S10x64x64 .f32) (d6 : Vec F S256x128 .f32) (E : Set ℕ) (K : PUnit → sProp 𝕄) :
    iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d)
        ∗ owns (c : Thread nD τ) arg5 fullShare d5 ∗ owns (c : Thread nD τ) arg6 fullShare d6
        ∗ (iprop(owns (c : Thread nD τ) arg1 fullShare x0
            ∗ owns (c : Thread nD τ) arg2 fullShare (k0_pay10 (VecWindow.put d6 (k0_off4 i) S64x128.size (countOf (blockI x0 i))))
            ∗ owns (c : Thread nD τ) arg3 fullShare (k0_pay13 (VecWindow.put d6 (k0_off4 i) S64x128.size (countOf (blockI x0 i))))
            ∗ owns (c : Thread nD τ) arg4 fullShare (coevOf (VecWindow.put d6 (k0_off4 i) S64x128.size (countOf (blockI x0 i)))
                (fun p => VecWindow.window (VecWindow.put d5 (k0_off3 i) S1x64x64.size (tileOf (blockI x0 i) (blockJ x0 i))) ![p.val, 0, 0] S1x64x64.size (tile_inb p)))
            ∗ owns (c : Thread nD τ) arg5 fullShare (VecWindow.put d5 (k0_off3 i) S1x64x64.size (tileOf (blockI x0 i) (blockJ x0 i)))
            ∗ owns (c : Thread nD τ) arg6 fullShare (VecWindow.put d6 (k0_off4 i) S64x128.size (countOf (blockI x0 i)))) -∗ K ⟨⟩))
      ⊢ wp frame (wpE (defs₀ (F := F)) Variants.none c none) E (cc0_mi_tiles i arg1 harg1 arg2 harg2 arg3 harg3 arg4 harg4 arg5 harg5 arg6 harg6) K := by
  letI : ClosedOff (k0_off3 i) := ⟨![9, 0, 0], hl⟩
  simp only [cc0_mi_tiles_eq_skeleton]; unfold cc0_mi_tiles_skel
  simp only [k0_part7_eq_skeleton, k0_part8_eq_skeleton, k0_part1_eq_skeleton, k0_part2_eq_skeleton, k0_part3_eq_skeleton, k0_part4_eq_skeleton, k0_part5_eq_skeleton, k0_part6_eq_skeleton]
  unfold owns
  iintro ⟨⟨%f0, %hf0, H0⟩, ⟨%d1, %f1, -, H1⟩, ⟨%d2, %f2, -, H2⟩, ⟨%d3, %f3, -, H3⟩, ⟨%fs0, %hfs0, HS0⟩, ⟨%fs1, %hfs1, HS1⟩, Hk⟩
  obtain rfl := harg1.eq_unread hf0; obtain rfl := harg5.eq_unread hfs0; obtain rfl := harg6.eq_unread hfs1
  sl_exec (disch := first | sl_exact hc1 | sl_exact hc2)
  sl_step
  iapply Hk
  isplitl [H0]
  · iexists _; isplitr; · ipureintro; exact harg1.read_unread _
    iexact H0
  isplitl [H1]
  · iexists _; isplitr
    swap
    · iexact H1
    · ipureintro
      rw [View.read_writes_full, View.readAt_full]
      exact congrArg k0_pay10 (count_stored i hc1 arg1 harg1 arg6 harg6 x0 d6)
  isplitl [H2]
  · iexists _; isplitr
    swap
    · iexact H2
    · ipureintro
      rw [View.read_writes_full, View.readAt_full]
      exact congrArg k0_pay13 (count_stored i hc1 arg1 harg1 arg6 harg6 x0 d6)
  isplitl [H3]
  · iexists _; isplitr
    swap
    · iexact H3
    · ipureintro
      rw [View.read_writes_full (v := arg4.view)]
      refine Eq.trans (b := coevOf
        (View.readAt (Elt F) arg6.view (Rect.unit (s := S256x128) ![0, 0] S256x128.size inb_S256x128_S256x128_0_0).toLoadRect
          (arg6.view.writes (Elt F) (harg6.unread d6) (countPiece i hc1 arg1 harg1 x0)))
        (fun p => if p.val = 9 then
            arg5.view.readCov (tilePiece i arg1 harg1 x0) (Rect.unit (s := S10x64x64) ![9, 0, 0] S1x64x64.size inb_S10x64x64_S1x64x64_9_0_0).toLoadRect
          else View.readAt (Elt F) arg5.view (Rect.unit (s := S10x64x64) ![p.val, 0, 0] S1x64x64.size (tile_inb p)).toLoadRect (harg5.unread d5))) ?_ ?_
      · rfl
      · congr 1
        · rw [View.readAt_full]
          exact count_stored i hc1 arg1 harg1 arg6 harg6 x0 d6
        · funext p
          dsimp only
          split_ifs with hp
          · obtain rfl : p = 9 := Fin.ext hp
            exact last_tile_read i hl arg1 harg1 arg5 x0 d5
          · rw [View.readAt_unit _ _ _ rfl (tile_inb p), harg5.read_unread, hl]
            exact (VecWindow.window_put_of_disjoint d5 _ _ _ _ _ _ (0 : Fin 3) (Or.inl (by
              show p.val + 1 ≤ 9
              have := p.isLt; omega))).symm
  isplitl [HS0]
  · iexists _; isplitr
    swap
    · iexact HS0
    · ipureintro; exact tile_stored i arg1 harg1 arg5 harg5 x0 d5
  · iexists _; isplitr
    swap
    · iexact HS1
    · ipureintro; exact count_stored i hc1 arg1 harg1 arg6 harg6 x0 d6

end Cert.KernelIdeal.Hand

end
-- ==== Proof.Schedule.lean ====
/- Which blocks each of the ten grid steps reads, where it stores, and what the two scratch arrays hold after each
   step: the tiles and the counts of the blocks met so far. -/
module

public import proofs.«01_k».proof.Proof.Body
public import Idealize.ShloMosaic.Lib.ValueIdxCore

@[expose] public section

set_option maxRecDepth 16384

noncomputable section

namespace Cert.KernelIdeal.Hand

open Idealize.ShloMosaic Idealize.ShloMosaic.TcCoe
open Idealize.SL Idealize.SL.Sem
open Cert.KernelIdeal.Gen
open Idealize.ShloMosaic.ValueIdx

variable {F : FTy → Type} [FloatOps F] [Named F]

/-- The block of rows of the `p`-th tile. -/
def rowOf : Fin 10 → Fin 4 := ![0, 0, 0, 0, 1, 1, 1, 2, 2, 3]
/-- The block of columns of the `p`-th tile. -/
def colOf : Fin 10 → Fin 4 := ![0, 1, 2, 3, 1, 2, 3, 2, 3, 3]
/-- The step of the diagonal tile of block `b`. -/
def diagAt : Fin 4 → Fin 10 := ![0, 4, 7, 9]

/-- The step as a number below ten. -/
abbrev stepNo (t : Fin cfg0.N) : Fin 10 := ⟨t.val, lt_of_lt_of_eq t.isLt N_0⟩

/-- The step reads the first block at its tile's row, -/
theorem off1_at : ∀ t : Fin cfg0.N, k0_off1 (grid0.coords t) = ![(rowOf (stepNo t)).val, 0, 0] :=
  (by decide +kernel : ∀ t : Fin grid0.N, k0_off1 (grid0.coords t) = ![(rowOf ⟨t.val, lt_of_lt_of_eq t.isLt N_0⟩).val, 0, 0])
/-- the second at its column, -/
theorem off2_at : ∀ t : Fin cfg0.N, k0_off2 (grid0.coords t) = ![(colOf (stepNo t)).val, 0, 0] :=
  (by decide +kernel : ∀ t : Fin grid0.N, k0_off2 (grid0.coords t) = ![(colOf ⟨t.val, lt_of_lt_of_eq t.isLt N_0⟩).val, 0, 0])
/-- stores its tile at its own number, -/
theorem off3_at : ∀ t : Fin cfg0.N, k0_off3 (grid0.coords t) = ![t.val, 0, 0] :=
  (by decide +kernel : ∀ t : Fin grid0.N, k0_off3 (grid0.coords t) = ![t.val, 0, 0])
/-- and its counts at its row's positions. -/
theorem off4_at : ∀ t : Fin cfg0.N, k0_off4 (grid0.coords t) = ![64 * (rowOf (stepNo t)).val, 0] :=
  (by decide +kernel : ∀ t : Fin grid0.N, k0_off4 (grid0.coords t) = ![64 * (rowOf ⟨t.val, lt_of_lt_of_eq t.isLt N_0⟩).val, 0])

/-- A step is on the diagonal. -/
abbrev onDiag (t : Fin cfg0.N) : Prop := diagAt (rowOf (stepNo t)) = stepNo t
/-- The first branch is taken on the diagonal, -/
theorem cond1_at : ∀ t : Fin cfg0.N, k0_cond1 (grid0.coords t) = 1#1 ↔ onDiag t :=
  (by decide +kernel : ∀ t : Fin grid0.N, k0_cond1 (grid0.coords t) = 1#1 ↔ diagAt (rowOf ⟨t.val, lt_of_lt_of_eq t.isLt N_0⟩) = ⟨t.val, lt_of_lt_of_eq t.isLt N_0⟩)
/-- and the second at the last step. -/
theorem cond2_at : ∀ t : Fin cfg0.N, k0_cond2 (grid0.coords t) = 1#1 ↔ t.val = 9 :=
  (by decide +kernel : ∀ t : Fin grid0.N, k0_cond2 (grid0.coords t) = 1#1 ↔ t.val = 9)

/-- Block `b` of the input. -/
abbrev blk (X : Vec F S4x1344x512 .bf16) (b : Fin 4) : Vec F S1x1344x512 .bf16 :=
  VecWindow.window X ![b.val, 0, 0] S1x1344x512.size (by revert b; decide)

/-- The window at equal offsets. -/
theorem window_congr {s : Shape} {α : Type} (x : s.Idx → α) {off off' : Fin s.rank → ℕ} (size : Fin s.rank → ℕ) (h : off = off')
    (inb : ∀ a, off a + size a ≤ s.size a) (inb' : ∀ a, off' a + size a ≤ s.size a) :
    VecWindow.window x off size inb = VecWindow.window x off' size inb' := by
  subst h; rfl

/-- The first block read is the one of the tile's row, -/
theorem blockI_at (X : Vec F S4x1344x512 .bf16) (t : Fin cfg0.N) : blockI X (grid0.coords t) = blk X (rowOf (stepNo t)) :=
  window_congr X _ (off1_at t) _ _
/-- the second the one of its column. -/
theorem blockJ_at (X : Vec F S4x1344x512 .bf16) (t : Fin cfg0.N) : blockJ X (grid0.coords t) = blk X (colOf (stepNo t)) :=
  window_congr X _ (off2_at t) _ _

/-- The `p`-th tile. -/
def tileAt (X : Vec F S4x1344x512 .bf16) (p : Fin 10) : Vec F S1x64x64 .f32 := tileOf (blk X (rowOf p)) (blk X (colOf p))

/-- Block `b`'s rows lie inside the count scratch. -/
theorem rows_inb (b : Fin 4) : ∀ a, (![64 * b.val, 0] : Fin 2 → ℕ) a + S64x128.size a ≤ S256x128.size a := by
  revert b; decide

/-- The tile scratch holds the tiles of the first `n` steps. -/
def HoldsTiles (X : Vec F S4x1344x512 .bf16) (n : ℕ) (d : Vec F S10x64x64 .f32) : Prop :=
  ∀ p : Fin 10, p.val < n → VecWindow.window d ![p.val, 0, 0] S1x64x64.size (tile_inb p) = tileAt X p
/-- The count scratch holds the counts of the blocks whose diagonal tile is among the first `n` steps. -/
def HoldsCounts (X : Vec F S4x1344x512 .bf16) (n : ℕ) (d : Vec F S256x128 .f32) : Prop :=
  ∀ b : Fin 4, (diagAt b).val < n → VecWindow.window d ![64 * b.val, 0] S64x128.size (rows_inb b) = countOf (blk X b)

/-- A step stores its own tile and keeps the earlier ones. -/
theorem HoldsTiles.step {X : Vec F S4x1344x512 .bf16} {d : Vec F S10x64x64 .f32} (t : Fin cfg0.N) (h : HoldsTiles X t.val d) :
    HoldsTiles X (t.val + 1) (VecWindow.put d (k0_off3 (grid0.coords t)) S1x64x64.size (tileOf (blockI X (grid0.coords t)) (blockJ X (grid0.coords t)))) := by
  intro p hp
  rw [off3_at, blockI_at, blockJ_at]
  by_cases e : p.val = t.val
  · obtain rfl : p = stepNo t := Fin.ext e
    exact VecWindow.window_put_same d ![t.val, 0, 0] S1x64x64.size (tile_inb (stepNo t)) _
  · rw [VecWindow.window_put_of_disjoint d ![t.val, 0, 0] S1x64x64.size ![p.val, 0, 0] S1x64x64.size (tile_inb p) _ 0
      (Or.inl (show p.val + 1 ≤ t.val by omega))]
    exact h p (by omega)

/-- A diagonal step is no other block's diagonal step, -/
theorem diagAt_row_ne : ∀ (p : Fin 10) (b : Fin 4), diagAt (rowOf p) = p → b ≠ rowOf p → diagAt b ≠ p := by decide
/-- and a step off the diagonal is none's. -/
theorem diagAt_off : ∀ (p : Fin 10) (b : Fin 4), ¬diagAt (rowOf p) = p → diagAt b ≠ p := by decide

/-- A step on the diagonal stores its block's counts and keeps the earlier ones. -/
theorem HoldsCounts.step {X : Vec F S4x1344x512 .bf16} {d : Vec F S256x128 .f32} (t : Fin cfg0.N) (ht : onDiag t) (h : HoldsCounts X t.val d) :
    HoldsCounts X (t.val + 1) (VecWindow.put d (k0_off4 (grid0.coords t)) S64x128.size (countOf (blockI X (grid0.coords t)))) := by
  intro b hb
  rw [off4_at, blockI_at]
  by_cases e : b = rowOf (stepNo t)
  · subst e
    exact VecWindow.window_put_same d ![64 * (rowOf (stepNo t)).val, 0] S64x128.size (rows_inb (rowOf (stepNo t))) _
  · have hne : b.val ≠ (rowOf (stepNo t)).val := fun h => e (Fin.ext h)
    rw [VecWindow.window_put_of_disjoint d ![64 * (rowOf (stepNo t)).val, 0] S64x128.size ![64 * b.val, 0] S64x128.size (rows_inb b) _ 0
      (show 64 * b.val + 64 ≤ 64 * (rowOf (stepNo t)).val ∨ 64 * (rowOf (stepNo t)).val + 64 ≤ 64 * b.val by omega)]
    have hd : (diagAt b).val ≠ t.val := fun h => diagAt_row_ne (stepNo t) b ht e (Fin.ext h)
    exact h b (by omega)

/-- A step off the diagonal leaves the counts. -/
theorem HoldsCounts.skip {X : Vec F S4x1344x512 .bf16} {d : Vec F S256x128 .f32} (t : Fin cfg0.N) (ht : ¬onDiag t) (h : HoldsCounts X t.val d) :
    HoldsCounts X (t.val + 1) d := fun b hb => by
  have hd : (diagAt b).val ≠ t.val := fun h => diagAt_off (stepNo t) b ht (Fin.ext h)
  exact h b (by omega)

/-- The counts of all 256 positions, read off the blocks. -/
def countsOf (X : Vec F S4x1344x512 .bf16) : Vec F S256x128 .f32 := fun y =>
  countOf (blk X ⟨(y 0).val / 64, by have := (y 0).isLt; have e : S256x128.size 0 = 256 := rfl; omega⟩)
    (ix2 ⟨(y 0).val % 64, Nat.mod_lt _ (by decide)⟩ ⟨(y 1).val, (y 1).isLt⟩)

/-- After all ten steps the count scratch holds the counts of all positions. -/
theorem HoldsCounts.all {X : Vec F S4x1344x512 .bf16} {d : Vec F S256x128 .f32} (h : HoldsCounts X 10 d) : d = countsOf X := by
  funext y
  have hy : (y 0).val < 256 := (y 0).isLt
  have hb : (y 0).val / 64 < 4 := by omega
  have e := congrFun (h ⟨(y 0).val / 64, hb⟩ (diagAt _).isLt) (ix2 ⟨(y 0).val % 64, Nat.mod_lt _ (by decide)⟩ ⟨(y 1).val, (y 1).isLt⟩)
  refine Eq.trans ?_ e
  unfold VecWindow.window
  congr 1
  funext a
  match a with
  | ⟨0, _⟩ => exact Fin.ext (show (y 0).val = 64 * ((y 0).val / 64) + 1 * ((y 0).val % 64) by omega)
  | ⟨1, _⟩ => exact Fin.ext (show (y 1).val = 0 + 1 * (y 1).val by omega)

/-- After all ten steps the tile scratch's windows are the tiles. -/
theorem HoldsTiles.all {X : Vec F S4x1344x512 .bf16} {d : Vec F S10x64x64 .f32} (h : HoldsTiles X 10 d) :
    (fun p : Fin 10 => VecWindow.window d ![p.val, 0, 0] S1x64x64.size (tile_inb p)) = tileAt X :=
  funext fun p => h p p.isLt

end Cert.KernelIdeal.Hand

end
-- ==== Proof.Launch.lean ====
/- The launch: the invariant carries the tiles and counts stored so far, so that the last step writes the three results
   as functions of the input alone; the run, and what the result arrays hold after it. -/
module

public import proofs.«01_k».proof.Proof.Schedule
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The staging buffers, the scratch, and which points touch which window -/

abbrev ms0_0 (t : Fin cfg0.N) : Memref sig .tc .vmem S4x1344x512 .bf16 := win0_0.stage (cfg0.slots t 0)
abbrev ms0_1 (t : Fin cfg0.N) : Memref sig .tc .vmem S256x21 .f32 := win0_1.stage (cfg0.slots t 1)
abbrev ms0_2 (t : Fin cfg0.N) : Memref sig .tc .vmem S1x256 .f32 := win0_2.stage (cfg0.slots t 2)
abbrev ms0_3 (t : Fin cfg0.N) : Memref sig .tc .vmem S256x256 .f32 := win0_3.stage (cfg0.slots t 3)
abbrev scM0_0 : Memref sig .tc .vmem S10x64x64 .f32 := Memref.whole cc0_scratch0
abbrev scM0_1 : Memref sig .tc .vmem S256x128 .f32 := Memref.whole cc0_scratch1

/-- Which windows a step uses: the input always, the results at the last step only, when they are flushed. -/
theorem liveAt0_0 : ∀ t : Fin cfg0.N, cfg0.idle 0 (grid0.coords t) = false := fun _ => rfl
theorem idleAt0_1 : ∀ t : Fin cfg0.N, ¬t.val = 9 → cfg0.idle 1 (grid0.coords t) = true := by decide +kernel
theorem idleAt0_2 : ∀ t : Fin cfg0.N, ¬t.val = 9 → cfg0.idle 2 (grid0.coords t) = true := by decide +kernel
theorem idleAt0_3 : ∀ t : Fin cfg0.N, ¬t.val = 9 → cfg0.idle 3 (grid0.coords t) = true := by decide +kernel
theorem noFlush0_1 : ∀ t : Fin cfg0.N, ¬t.val = 9 → (cfg0.win 1).flush t = false := by decide +kernel
theorem noFlush0_2 : ∀ t : Fin cfg0.N, ¬t.val = 9 → (cfg0.win 2).flush t = false := by decide +kernel
theorem noFlush0_3 : ∀ t : Fin cfg0.N, ¬t.val = 9 → (cfg0.win 3).flush t = false := by decide +kernel
theorem liveAt0_1 : ∀ t : Fin cfg0.N, t.val = 9 → cfg0.idle 1 (grid0.coords t) = false := by decide +kernel
theorem liveAt0_2 : ∀ t : Fin cfg0.N, t.val = 9 → cfg0.idle 2 (grid0.coords t) = false := by decide +kernel
theorem liveAt0_3 : ∀ t : Fin cfg0.N, t.val = 9 → cfg0.idle 3 (grid0.coords t) = false := by decide +kernel

/-- The last step is on the diagonal. -/
theorem onDiag_last : ∀ t : Fin cfg0.N, t.val = 9 → onDiag t :=
  (by decide +kernel : ∀ t : Fin grid0.N, t.val = 9 → diagAt (rowOf ⟨t.val, lt_of_lt_of_eq t.isLt N_0⟩) = ⟨t.val, lt_of_lt_of_eq t.isLt N_0⟩)

/-- The launch's own share of the invariant: both scratch arrays at anything, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The input and the results -/

/-- The kernel's input as the region finds it. -/
abbrev inp (c : Dev nD) : Vec F S4x1344x512 .bf16 := V m c main_v3

/-- Every window stands at its array's start. -/
theorem idx_zero : ∀ t : Fin cfg0.N, win0_0.index t = ![0, 0, 0] ∧ win0_1.index t = ![0, 0] ∧ win0_2.index t = ![0, 0] ∧ win0_3.index t = ![0, 0] :=
  (by decide +kernel : ∀ t : Fin grid0.N, _)

/-- The input's one block is the whole input. -/
theorem iblk0 (c : Dev nD) (t : Fin cfg0.N) : iblk m c 0 t = inp m c := by blk_ext! [iblk, V, idx_zero t]

/-- The three results as functions of the input. -/
abbrev pssmOf (X : Vec F S4x1344x512 .bf16) : Vec F S256x21 .f32 := k0_pay10 (countsOf X)
/-- The second, -/
abbrev consOf (X : Vec F S4x1344x512 .bf16) : Vec F S1x256 .f32 := k0_pay13 (countsOf X)
/-- and the third. -/
abbrev coOf (X : Vec F S4x1344x512 .bf16) : Vec F S256x256 .f32 := coevOf (countsOf X) (tileAt X)

/-- Before step `n` the scratch holds the tiles and counts of the steps before. -/
def PhiS (c : Dev nD) (n : ℕ) (h : n ≤ cfg0.N) : sProp 𝕄 :=
  iprop(∃ d5 d6, iprop(owns (c : Thread nD τ) scM0_0 fullShare d5 ∗ owns (c : Thread nD τ) scM0_1 fullShare d6
    ∗ ⌜HoldsTiles (inp m c) n d5 ∧ HoldsCounts (inp m c) n d6⌝ ∗ (∃ r, prngReg c r)))

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => pssmOf (inp m c)
    | ⟨2, _⟩ => consOf (inp m c)
    | ⟨3, _⟩ => coOf (inp m c)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves in each window. -/
theorem after0_0 (c : Dev nD) (t : Fin cfg0.N) : (dats m 0 c).after 0 t = iblk m c 0 t := by dsimp only [dats]
theorem after0_1 (c : Dev nD) (t : Fin cfg0.N) : (dats m 0 c).after 1 t = pssmOf (inp m c) := by dsimp only [dats]
theorem after0_2 (c : Dev nD) (t : Fin cfg0.N) : (dats m 0 c).after 2 t = consOf (inp m c) := by dsimp only [dats]
theorem after0_3 (c : Dev nD) (t : Fin cfg0.N) : (dats m 0 c).after 3 t = coOf (inp m c) := by dsimp only [dats]

/-- The input window holds its block. -/
theorem before0_0 (c : Dev nD) (t : Fin cfg0.N) (d) : (dats m 0 c).before 0 t d = iblk m c 0 t :=
  before0_0_of m (dats m 0 c) (A_eq m c 0) (after0_0 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- The input's staging buffer is left as found. -/
theorem leaves0_0 (c : Dev nD) (t : Fin cfg0.N) :
    (dats m 0 c).leavesExact 0 t = owns (c : Thread nD τ) (ms0_0 t) fullShare (iblk m c 0 t) := by
  unfold Dat.leavesExact; rw [liveAt0_0 t, after0_0]

set_option maxHeartbeats 1600000 in
/-- The body at any point: one of the three kinds of step. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) t.isLt from rfl, PhiS_castSucc m c t, leaves0_0, iblk0]
  unfold PhiS
  by_cases h9 : t.val = 9
  · have hd := onDiag_last t h9
    rw [show (dats m 0 c).leavesExact 1 t = owns (c : Thread nD τ) (ms0_1 t) fullShare ((dats m 0 c).after 1 t) from by
      unfold Dat.leavesExact; rw [liveAt0_1 t h9], after0_1]
    rw [show (dats m 0 c).leavesExact 2 t = owns (c : Thread nD τ) (ms0_2 t) fullShare ((dats m 0 c).after 2 t) from by
      unfold Dat.leavesExact; rw [liveAt0_2 t h9], after0_2]
    rw [show (dats m 0 c).leavesExact 3 t = owns (c : Thread nD τ) (ms0_3 t) fullShare ((dats m 0 c).after 3 t) from by
      unfold Dat.leavesExact; rw [liveAt0_3 t h9], after0_3]
    iintro ⟨⟨%d5, %d6, HS0, HS1, %hS, Hg⟩, Ho, ⟨%e0, H0⟩, ⟨%e1, H1⟩, ⟨%e2, H2⟩, ⟨%e3, H3⟩⟩
    have k5 := HoldsTiles.step t hS.1
    have k6 := HoldsCounts.step t hd hS.2
    have a5 := HoldsTiles.all (show HoldsTiles (inp m c) 10 _ from by have := k5; rwa [h9] at this)
    have a6 := HoldsCounts.all (show HoldsCounts (inp m c) 10 _ from by have := k6; rwa [h9] at this)
    iapply (body_last c (grid0.coords t) (ms0_0 t) _ (ms0_1 t) _ (ms0_2 t) _ (ms0_3 t) _ scM0_0 _ scM0_1 _
      ((cond1_at t).mpr hd) ((cond2_at t).mpr h9) ((off3_at t).trans (by rw [h9])) (inp m c) d5 d6 Set.univ _)
    rw [a5, a6]
    isplitl [H0]; · iexact H0
    isplitl [H1]; · iexists _; iexact H1
    isplitl [H2]; · iexists _; iexact H2
    isplitl [H3]; · iexists _; iexact H3
    isplitl [HS0]; · iexact HS0
    isplitl [HS1]; · iexact HS1
    iintro ⟨H0, H1, H2, H3, HS0, HS1⟩
    isplitl [HS0 HS1 Hg]
    · iexists _, _
      isplitl [HS0]; · iexact HS0
      isplitl [HS1]; · iexact HS1
      isplitr; · ipureintro; exact ⟨k5, a6 ▸ k6⟩
      iexact Hg
    isplitl [Ho]; · iexact Ho
    isplitl [H0]; · iexact H0
    isplitl [H1]; · iexact H1
    isplitl [H2]; · iexact H2
    iexact H3
  · rw [Dat.leavesExact_idle (dats m 0 c) 1 t (idleAt0_1 t h9) (noFlush0_1 t h9),
      Dat.leavesExact_idle (dats m 0 c) 2 t (idleAt0_2 t h9) (noFlush0_2 t h9),
      Dat.leavesExact_idle (dats m 0 c) 3 t (idleAt0_3 t h9) (noFlush0_3 t h9)]
    iintro ⟨⟨%d5, %d6, HS0, HS1, %hS, Hg⟩, Ho, ⟨%e0, H0⟩, ⟨%e1, H1⟩, ⟨%e2, H2⟩, ⟨%e3, H3⟩⟩
    have k5 := HoldsTiles.step t hS.1
    by_cases hd : onDiag t
    · have k6 := HoldsCounts.step t hd hS.2
      iapply (body_diag c (grid0.coords t) (ms0_0 t) _ (ms0_1 t) _ (ms0_2 t) _ (ms0_3 t) _ scM0_0 _ scM0_1 _
        ((cond1_at t).mpr hd) (fun h => h9 ((cond2_at t).mp h)) (inp m c) d5 d6 Set.univ _)
      isplitl [H0]; · iexact H0
      isplitl [HS0]; · iexact HS0
      isplitl [HS1]; · iexact HS1
      iintro ⟨H0, HS0, HS1⟩
      isplitl [HS0 HS1 Hg]
      · iexists _, _
        isplitl [HS0]; · iexact HS0
        isplitl [HS1]; · iexact HS1
        isplitr; · ipureintro; exact ⟨k5, k6⟩
        iexact Hg
      isplitl [Ho]; · iexact Ho
      isplitl [H0]; · iexact H0
      isplitl [H1]; · iexists _; iexact H1
      isplitl [H2]; · iexists _; iexact H2
      iexists _; iexact H3
    · have k6 := HoldsCounts.skip t hd hS.2
      iapply (body_off c (grid0.coords t) (ms0_0 t) _ (ms0_1 t) _ (ms0_2 t) _ (ms0_3 t) _ scM0_0 _ scM0_1 _
        (fun h => hd ((cond1_at t).mp h)) (fun h => h9 ((cond2_at t).mp h)) (inp m c) d5 Set.univ _)
      isplitl [H0]; · iexact H0
      isplitl [HS0]; · iexact HS0
      iintro ⟨H0, HS0⟩
      isplitl [HS0 HS1 Hg]
      · iexists _, _
        isplitl [HS0]; · iexact HS0
        isplitl [HS1]; · iexact HS1
        isplitr; · ipureintro; exact ⟨k5, k6⟩
        iexact Hg
      isplitl [Ho]; · iexact Ho
      isplitl [H0]; · iexact H0
      isplitl [H1]; · iexists _; iexact H1
      isplitl [H2]; · iexists _; iexact H2
      iexists _; iexact H3

theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over starts the invariant, -/
theorem hin (c : Dev nD) : Pipeline.ΦA spec0 c ⊢ (dats m 0 c).Φ 0 := by
  rw [show (dats m 0 c).Φ 0 = PhiS m c 0 (Nat.zero_le _) from rfl, PhiA0_eq]
  unfold PhiS
  iintro ⟨⟨⟨%dS0, HS0⟩, ⟨%dS1, HS1⟩⟩, Hg⟩
  iexists dS0, dS1
  isplitl [HS0]; · iexact HS0
  isplitl [HS1]; · iexact HS1
  isplitr; · ipureintro; exact ⟨fun _ h => absurd h (Nat.not_lt_zero _), fun _ h => absurd h (Nat.not_lt_zero _)⟩
  iexact Hg

/-- and the invariant at the end gives it back. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  unfold PhiS
  iintro ⟨%dS0, %dS1, HS0, HS1, %h, Hg⟩
  isplitl [HS0 HS1]
  · isplitl [HS0]
    · iexists _; iexact HS0
    iexists _; iexact HS1
  iexact Hg

/-! ## The run -/

set_option backward.isDefEq.respectTransparency.types false in
set_option maxHeartbeats 800000 in
/-- Every run ends, the arrays as the proof data say and every counter at zero. -/
theorem run_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The run, without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiescent m ρ)

/-- The frame: the argument ends as launched and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) (run_main m ρ)) ((θ_run defs _ _).mono (fun _ h => h.2) (run_quiescent m ρ))

/-! ## What the result arrays hold -/

/-- The first result array is the scoring matrix of the counts, -/
theorem final1 (c : Dev nD) : (dats m 0 c).arrAt 1 (cfgs 0).N = pssmOf (inp m c) := by
  refine (dats m 0 c).arrAt_eq_of_covers 1 _ (by decide +kernel) fun t _ y => ?_
  blk_simp
  rw [after0_1]
  blk_ext [idx_zero t]

/-- the second the conservation, -/
theorem final2 (c : Dev nD) : (dats m 0 c).arrAt 2 (cfgs 0).N = consOf (inp m c) := by
  refine (dats m 0 c).arrAt_eq_of_covers 2 _ (by decide +kernel) fun t _ y => ?_
  blk_simp
  rw [after0_2]
  blk_ext [idx_zero t]

/-- the third the corrected scores of counts and tiles. -/
theorem final3 (c : Dev nD) : (dats m 0 c).arrAt 3 (cfgs 0).N = coOf (inp m c) := by
  refine (dats m 0 c).arrAt_eq_of_covers 3 _ (by decide +kernel) fun t _ y => ?_
  blk_simp
  rw [after0_3]
  blk_ext [idx_zero t]

end Cert.KernelIdeal.Hand

end
-- ==== Proof.Frames.lean ====
/- The frames of the three programs. The kernel as printed and the kernel with its constants named are the same
   program once each name is read as its own word, so one run serves both. -/
module

public import proofs.«01_k».proof.Defs
public import proofs.«01_k».proof.Proof.Gen.Kernel
public import proofs.«01_k».proof.Proof.Gen.Pre_normalized
public import proofs.«01_k».proof.Proof.Gen.ReferenceIdeal.Run
public import proofs.«01_k».proof.Proof.Launch
public import Idealize.ShloMosaic.Lib.Quiescent

@[expose] public section

set_option maxRecDepth 16384

noncomputable section

namespace Cert.Frames

open Idealize.ShloMosaic Idealize.SL.Sem

/-- A name read as the word it stands beside. -/
abbrev asWords : Named Bits := ⟨fun _ _ _ b => FloatOps.ofBits _ b⟩

section Twin
set_option maxHeartbeats 2000000
set_option backward.isDefEq.respectTransparency.types false

/-- The two programs' bodies agree. -/
theorem defs₀_eq : Cert.Kernel.defs₀ (F := Bits) = (letI := asWords; Cert.KernelIdeal.defs₀ (F := Bits)) := by
  unfold Cert.Kernel.defs₀ Cert.KernelIdeal.defs₀
  refine congrArg Defs.onTc ?_
  funext l
  match l with
  | 0 => rfl

/-- So do their body tables, -/
theorem defs_eq : Cert.Kernel.defs (F := Bits) = (letI := asWords; Cert.KernelIdeal.defs (F := Bits)) := by
  unfold Cert.Kernel.defs Cert.KernelIdeal.defs
  rw [defs₀_eq]
  rfl

/-- and their entry functions. -/
theorem main_eq : Cert.Kernel.main (F := Bits) = (letI := asWords; Cert.KernelIdeal.main (F := Bits)) := rfl

/-- The frame of the kernel, -/
theorem kernel : Cert.quiescent_Kernel := fun m ρ _ => by
  letI := asWords
  rw [defs_eq, main_eq]
  exact Cert.KernelIdeal.Hand.frame (F := Bits) m ρ
end Twin

/-- of the ideal kernel, -/
theorem kernelIdeal : Cert.quiescent_KernelIdeal := fun m ρ _ => Cert.KernelIdeal.Hand.frame m ρ
/-- and the same under the precondition. -/
theorem kernelIdeal_pre : Cert.quiescent_KernelIdeal_pre_normalized := fun m ρ _ => Cert.KernelIdeal.Hand.frame m ρ

/-- The reference is host operations only: its run, and no counter to leave raised. -/
theorem referenceIdeal : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)
/-- The reference's under the precondition. -/
theorem referenceIdeal_pre : Cert.quiescent_ReferenceIdeal_pre_normalized := fun m ρ _ => referenceIdeal m ρ trivial

end Cert.Frames

end
-- ==== Proof.Tiles.lean ====
/- What a step's tile and a block's counts are, entry by entry. Row `64 a + r` of a block belongs to the letter `a` at the
   block's position `r`; the tile's entry of two positions sums over all pairs of letters. -/
module

public import proofs.«01_k».proof.Proof.Steps
public import Idealize.ShloMosaic.Lib.Pointwise
public import Idealize.ShloMosaic.Lib.WordCmp

@[expose] public section

set_option maxRecDepth 16384

noncomputable section

namespace Cert.KernelIdeal.Hand

open Idealize.ShloMosaic Idealize.ShloMosaic.TcCoe
open Idealize.SL Idealize.SL.Sem
open Cert.KernelIdeal.Gen

/-- The row of the letter `a` at the position `r` of a block. -/
abbrev rowAt (a : Fin 21) (r : Fin 64) : Fin 1344 := ⟨64 * a.val + r.val, by omega⟩

/-- What a pair of rows contributes: with `J` their scaled product plus the small number, `J · log₂ J`. -/
def ent (z : EReal) : EReal :=
  (z * Ideal.ofBits .f32 0x3B000000#32 + Ideal.ofBits .f32 0x3089705F#32)
    * (Ideal.log (z * Ideal.ofBits .f32 0x3B000000#32 + Ideal.ofBits .f32 0x3089705F#32) * Ideal.ofBits .f32 0x3FB8AA3B#32)

/-- The products of the entries before the sums. -/
def cells (v w : FVec Ideal S1344x1344 .f32) (u t : Fin 1344) : EReal :=
  v (ix2 u t) * (w (ix2 u t) * Ideal.ofBits .f32 0x3FB8AA3B#32)

/-- A function on the first `n` numbers is one on all numbers. -/
theorem extend {n : ℕ} (f : Fin n → EReal) : ∃ h : ℕ → EReal, ∀ (k : ℕ) (hk : k < n), f ⟨k, hk⟩ = h k :=
  ⟨fun k => if hk : k < n then f ⟨k, hk⟩ else 0, fun k hk => by simp only [dif_pos hk]⟩

/-- The column slices added up are the sum over the second letter. -/
theorem columns (v w : FVec Ideal S1344x1344 .f32) (u : Fin 1344) (s : Fin 64) :
    k0_pay27 (F := Ideal) v w (ix2 u s) = ∑ b : Fin 21, cells v w u (rowAt b s) := by
  obtain ⟨h, hh⟩ := extend (cells v w u)
  simp only [hh]
  unfold cells at hh
  rw [Fin.sum_univ_eq_sum_range (fun b => h (64 * b + s.val)) 21]
  pointwise [k0_pay27]
  simp only [hh, Finset.sum_range_succ, Finset.sum_range_zero]
  simp only [← add_assoc, Nat.reduceAdd, Nat.reduceMul, zero_add]
  abel

/-- The row slices added up are the sum over the first letter. -/
theorem rows (v w : FVec Ideal S1344x1344 .f32) (r s : Fin 64) :
    k0_pay1 (F := Ideal) (k0_pay27 v w) (k0_pay28 v w) (k0_pay29 v w) (ix3 0 r s)
      = ∑ a : Fin 21, k0_pay27 (F := Ideal) v w (ix2 (rowAt a r) s) := by
  obtain ⟨h, hh⟩ := extend (fun u => k0_pay27 (F := Ideal) v w (ix2 u s))
  simp only [hh]
  rw [Fin.sum_univ_eq_sum_range (fun a => h (64 * a + r.val)) 21]
  pointwise [k0_pay1, k0_pay28, k0_pay29]
  simp only [hh, Finset.sum_range_succ, Finset.sum_range_zero, ← add_assoc, Nat.reduceMul, zero_add]

/-- One cell of the scaled product of two blocks. -/
theorem product (x y : Vec Ideal S1x1344x512 .bf16) (u t : Fin 1344) :
    k0_pay25 (F := Ideal) x y (ix2 u t)
      = (∑ k : Fin 512, x (ix3 0 u k) * y (ix3 0 t k)) * Ideal.ofBits .f32 0x3B000000#32 + Ideal.ofBits .f32 0x3089705F#32 := by
  pointwise [k0_pay25, k0_pay24]
  try simp only [zero_add]

/-- A tile's entry of two positions. -/
theorem tileOf_apply (x y : Vec Ideal S1x1344x512 .bf16) (r s : Fin 64) :
    tileOf (F := Ideal) x y (ix3 0 r s)
      = ∑ a : Fin 21, ∑ b : Fin 21, ent (∑ k : Fin 512, x (ix3 0 (rowAt a r) k) * y (ix3 0 (rowAt b s) k)) := by
  unfold tileOf
  rw [rows]
  refine Finset.sum_congr rfl fun a _ => ?_
  rw [columns]
  refine Finset.sum_congr rfl fun b _ => ?_
  unfold cells ent
  rw [← product]
  pointwise [k0_pay26]

/-- A choice by a lane's number: of two numbers below 2³², equal as words if equal. -/
theorem select_lane {l n : ℕ} (hl : l < 4294967296) (hn : n < 4294967296) (z w : EReal) :
    Scalar.select (IntOp.cmpi .eq (BitVec.ofNat 32 l) (BitVec.ofNat 32 n)) z w = if n = l then z else w := by
  rw [WordCmp.cmpi_eq_ofNat hl hn]
  by_cases h : n = l
  · simp [h, Scalar.select]
  · simp [h, Ne.symm h, Scalar.select]

/-- A block's count of a letter at a position: the sum of that letter's row. -/
theorem countOf_apply (x : Vec Ideal S1x1344x512 .bf16) (r : Fin 64) (l : Fin 21) :
    countOf (F := Ideal) x (ix2 r ⟨l.val, by omega⟩) = ∑ k : Fin 512, x (ix3 0 (rowAt l r) k) := by
  obtain ⟨h, hh⟩ := extend (fun u : Fin 1344 => ∑ k : Fin 512, x (ix3 0 u k))
  simp only [hh]
  pointwise [countOf, k0_pay8, k0_pay7, k0_pay6, k0_pay5, k0_pay4, k0_pay3, k0_pay24]
  have hl : l.val < 4294967296 := by omega
  rw [show h (64 * l.val + r.val) = ∑ n ∈ Finset.range 21, if n = l.val then h (64 * n + r.val) else 0 by
    rw [Finset.sum_ite_eq', if_pos (Finset.mem_range.mpr l.isLt)]]
  simp only [hh, select_lane hl, Nat.reduceLT, Finset.sum_range_succ, Finset.sum_range_zero, Nat.reduceMul, zero_add]

end Cert.KernelIdeal.Hand

end
-- ==== Proof.Scores.lean ====
/- The last step's assembly: the ten tiles laid out as a 256 × 256 matrix, those below the diagonal turned over, give back
   any symmetric table whose upper tiles they are. -/
module

public import proofs.«01_k».proof.Proof.Schedule
public import proofs.«01_k».proof.Proof.Tiles

@[expose] public section

set_option maxRecDepth 16384

noncomputable section

namespace Cert.KernelIdeal.Hand

open Idealize.ShloMosaic Idealize.ShloMosaic.TcCoe
open Idealize.SL Idealize.SL.Sem
open Cert.KernelIdeal.Gen

/-- The position `r` of block `b`. -/
abbrev posAt (b : Fin 4) (r : Fin 64) : Fin 256 := ⟨64 * b.val + r.val, by omega⟩

/-- Ten tiles are a table's upper tiles. -/
def Upper (T : Fin 10 → Vec Ideal S1x64x64 .f32) (G : Fin 256 → Fin 256 → EReal) : Prop :=
  ∀ (p : Fin 10) (r s : Fin 64), T p (ix3 0 r s) = G (posAt (rowOf p) r) (posAt (colOf p) s)

/-- An entry of a tile on or above the diagonal, -/
theorem upper_entry (G : Fin 256 → Fin 256 → EReal) (i j : Fin 256) (b c : Fin 4) (r s : Fin 64)
    (hi : 64 * b.val + r.val = i.val) (hj : 64 * c.val + s.val = j.val) : G (posAt b r) (posAt c s) = G i j :=
  congrArg₂ G (Fin.ext hi) (Fin.ext hj)
/-- and of one below it, which is the transpose of the tile across. -/
theorem lower_entry {G : Fin 256 → Fin 256 → EReal} (hG : ∀ i j, G i j = G j i) (i j : Fin 256) (b c : Fin 4) (r s : Fin 64)
    (hj : 64 * b.val + r.val = j.val) (hi : 64 * c.val + s.val = i.val) : G (posAt b r) (posAt c s) = G i j :=
  (upper_entry G j i b c r s hj hi).trans (hG j i)

/-- A position lies in one of the four blocks. -/
theorem quarter (i : Fin 256) : i.val < 64 ∨ (64 ≤ i.val ∧ i.val < 128) ∨ (128 ≤ i.val ∧ i.val < 192) ∨ (192 ≤ i.val ∧ i.val < 256) := by
  omega

set_option maxHeartbeats 1600000 in
/-- The assembled matrix, less the two positions' own terms, and zero on the diagonal. -/
theorem scoreOf_apply (cnt : Vec Ideal S256x128 .f32) (T : Fin 10 → Vec Ideal S1x64x64 .f32) (G : Fin 256 → Fin 256 → EReal)
    (hT : Upper T G) (hG : ∀ i j, G i j = G j i) (i j : Fin 256) :
    scoreOf (F := Ideal) cnt T (ix2 i j)
      = if i = j then 0 else G i j - k0_pay14 (F := Ideal) cnt (ix2 i 0) - k0_pay14 (F := Ideal) cnt (ix2 j 0) := by
  unfold Upper at hT
  pointwise [scoreOf, k0_pay21, k0_pay20, k0_pay19, k0_pay18, k0_pay17, k0_pay16, k0_pay15, hT]
  rw [select_lane (by omega) (by omega)]
  by_cases h : i = j
  · rw [if_pos h, if_pos (congrArg Fin.val h).symm]
  · have h' : ¬j.val = i.val := fun e => h (Fin.ext e.symm)
    simp only [if_neg h, if_neg h']
    refine congrArg₂ (fun a b : EReal => a - b) (congrArg₂ (fun a b : EReal => a - b) ?_ rfl) rfl
    rcases quarter i with hi | hi | hi | hi <;> rcases quarter j with hj | hj | hj | hj
    all_goals simp (disch := omega) only [dif_pos, dif_neg]
    all_goals first
      | (refine upper_entry G i j _ _ _ _ ?_ ?_ <;> (simp [rowOf, colOf] <;> omega))
      | (refine lower_entry hG i j _ _ _ _ ?_ ?_ <;> (simp [rowOf, colOf] <;> omega))

end Cert.KernelIdeal.Hand

end
-- ==== Proof.Letters.lean ====
/- The alignment and its counts, the words in which kernel and reference are compared. -/
module

public import Idealize.ShloMosaic.Lib.Pointwise

@[expose] public section

noncomputable section

namespace Cert.Letters

open Idealize.ShloMosaic

/-- The alignment: for each sequence and position a row of weights of the letters. -/
abbrev Alignment : Type := FVec Ideal ⟨3, ![512, 256, 21]⟩ .f32

variable (x : Alignment)

/-- How often a letter stands at a position. -/
def cnt (i : Fin 256) (a : Fin 21) : EReal := ∑ k : Fin 512, x (ix3 k i a)
/-- How often two letters stand at two positions together. -/
def both (i j : Fin 256) (a b : Fin 21) : EReal := ∑ k : Fin 512, x (ix3 k i a) * x (ix3 k j b)
/-- Two letters stand together the same often either way round. -/
theorem both_comm (i j : Fin 256) (a b : Fin 21) : both x i j a b = both x j i b a :=
  Finset.sum_congr rfl fun _ _ => mul_comm _ _

/-- A count as a frequency. -/
abbrev over (z : EReal) : EReal := Ideal.div z (Ideal.ofBits .f32 0x44000000#32)

/-- A square of scores less the product of row and column mean over the whole mean. -/
def corrected (s : FVec Ideal ⟨2, ![256, 256]⟩ .f32) (i j : Fin 256) : EReal :=
  s (ix2 i j) - Ideal.div
    (Ideal.div (∑ b : Fin 256, s (ix2 i b)) (Ideal.ofBits .f32 0x43800000#32)
      * Ideal.div (∑ a : Fin 256, s (ix2 a j)) (Ideal.ofBits .f32 0x43800000#32))
    (Ideal.div (∑ a : Fin 256, ∑ b : Fin 256, s (ix2 a b)) (Ideal.ofBits .f32 0x47800000#32) + Ideal.ofBits .f32 0x3089705F#32)

end Cert.Letters

end
-- ==== Proof.Blocks.lean ====
/- The rearranged alignment the kernel reads, and the counts and tiles in the alignment's own indices. -/
module

public import proofs.«01_k».proof.Proof.Launch
public import proofs.«01_k».proof.Proof.Scores
public import proofs.«01_k».proof.Proof.Letters
public import Idealize.ShloMosaic.Lib.Claim

@[expose] public section

set_option maxRecDepth 16384

noncomputable section

namespace Cert.KernelIdeal.Hand

open Idealize.ShloMosaic Idealize.ShloMosaic.TcCoe
open Idealize.SL Idealize.SL.Sem
open Cert.KernelIdeal.Gen Cert.Letters

/-- A rearranged array holds an alignment: row `64 a + r` of block `b` is the letter `a` at the position `64 b + r`. -/
def Rearranged (X : Vec Ideal S4x1344x512 .bf16) (x : Alignment) : Prop :=
  ∀ (b : Fin 4) (a : Fin 21) (r : Fin 64) (k : Fin 512), X (ix3 b (rowAt a r) k) = x (ix3 k (posAt b r) a)

variable (m : (ℓ : Loc nD τ sig) → Buf (Elt Ideal) ℓ)

/-- The host operations before the kernel rearrange the argument. -/
theorem inp_rearranged (c : Dev nD) : Rearranged (inp m c) (m ((c.tc : Thread nD τ).loc main_arg0)) := by
  intro b a r k
  show StableHlo.after hostOps0 (fun b => m (c, b)) (Proc.devRef .tc main_v3) (ix3 b (rowAt a r) k) = _
  unfold hostOps0
  after_results
  pointwise []
  exact congrArg (m ((c.tc : Thread nD τ).loc main_arg0)) (congrArg₂ (ix3 k)
    (Fin.ext (show b.val * 64 + (64 * a.val + r.val) % 64 = 64 * b.val + r.val by omega))
    (Fin.ext (show (64 * a.val + r.val) / 64 = a.val by omega)))

/-- A block at an index is the array there. -/
theorem blk_apply (X : Vec Ideal S4x1344x512 .bf16) (b : Fin 4) (u : Fin 1344) (k : Fin 512) : blk X b (ix3 0 u k) = X (ix3 b u k) := by
  unfold blk VecWindow.window
  refine congrArg X ?_
  funext d
  match d with
  | ⟨0, _⟩ => exact Fin.ext (show b.val + 1 * 0 = b.val by omega)
  | ⟨1, _⟩ => exact Fin.ext (show 0 + 1 * u.val = u.val by omega)
  | ⟨2, _⟩ => exact Fin.ext (show 0 + 1 * k.val = k.val by omega)

/-- The sum over all pairs of letters. -/
def joint (x : Alignment) (i j : Fin 256) : EReal := ∑ a : Fin 21, ∑ b : Fin 21, ent (both x i j a b)

/-- The sum is the same either way round. -/
theorem joint_symm (x : Alignment) (i j : Fin 256) : joint x i j = joint x j i := by
  unfold joint
  rw [Finset.sum_comm]
  refine Finset.sum_congr rfl fun a _ => Finset.sum_congr rfl fun b _ => congrArg ent ?_
  exact both_comm x _ _ _ _

variable {X : Vec Ideal S4x1344x512 .bf16} {x : Alignment} (h : Rearranged X x)
include h

/-- The kernel's count of a letter at a position. -/
theorem countsOf_apply (i : Fin 256) (a : Fin 21) : countsOf X (ix2 i ⟨a.val, by omega⟩) = cnt x i a := by
  refine (countOf_apply (blk X ⟨i.val / 64, by omega⟩) ⟨i.val % 64, by omega⟩ a).trans ?_
  refine Finset.sum_congr rfl fun k _ => ?_
  rw [blk_apply, h]
  exact congrArg (fun p => x (ix3 k p a)) (Fin.ext (by show 64 * (i.val / 64) + i.val % 64 = i.val; omega))

/-- The kernel's tiles are the upper tiles of the table of sums. -/
theorem tileAt_upper : Upper (tileAt X) (joint x) := by
  intro p r s
  unfold tileAt
  rw [tileOf_apply]
  refine Finset.sum_congr rfl fun a _ => Finset.sum_congr rfl fun b _ => congrArg ent ?_
  exact Finset.sum_congr rfl fun k _ => by rw [blk_apply, blk_apply, h, h]

end Cert.KernelIdeal.Hand

end
-- ==== Proof.Reference.lean ====
/- What the reference computes, entry by entry: its composed operations under names, and each read at an index. -/
module

public import proofs.«01_k».proof.Proof.Gen.ReferenceIdeal.Run
public import proofs.«01_k».proof.Proof.Letters
public import Idealize.ShloMosaic.Lib.WordCmp

@[expose] public section

set_option maxRecDepth 16384

noncomputable section

namespace Cert.ReferenceIdeal.Hand

open Idealize.ShloMosaic Idealize.ShloMosaic.TcCoe
open Idealize.SL Idealize.SL.Sem
open Cert.ReferenceIdeal Cert.ReferenceIdeal.Gen Cert.Letters

/-- A constant over the letter frequencies' shape. -/
abbrev every (b : BitVec 32) : FVec Ideal S256x21 .f32 := broadcastInDim S256x21 ![] bcast_S_S256x21 (constant S_ .f32 b)

variable (x : FVec Ideal S512x256x21 .f32)

/-- The letter frequencies. -/
def mean : FVec Ideal S256x21 .f32 :=
  Host.divf (Host.reduceAdd x (constant S_ .f32 0x00000000#32) reducesTo_S512x256x21_S256x21_d0 h_S_) (every 0x44000000#32)

/-- With the pseudocount. -/
def smoothed : FVec Ideal S256x21 .f32 := addf (mean x) (every 0x3A83126F#32)
/-- The first result, the scoring matrix. -/
def pssm : FVec Ideal S256x21 .f32 :=
  mulf (Host.log (Host.divf (Host.divf (smoothed x) (broadcastInDim S256x21 ![0, 1] bcast_S256x1_S256x21_0_1
    (broadcastInDim S256x1 ![0] bcast_S256_S256x1_0
      (Host.reduceAdd (smoothed x) (constant S_ .f32 0x00000000#32) reducesTo_S256x21_S256_d1 h_S_)))) (every 0x3D430C31#32)))
    (every 0x3FB8AA3B#32)

/-- The frequencies with the small number, -/
def freq : FVec Ideal S256x21 .f32 := addf (mean x) (every 0x3089705F#32)
/-- and their binary logarithms. -/
def logFreq : FVec Ideal S256x21 .f32 := mulf (Host.log (freq x)) (every 0x3FB8AA3B#32)
/-- The second result, the conservation. -/
def conservation : FVec Ideal S256 .f32 :=
  subf (broadcastInDim S256 ![] bcast_S_S256 (constant S_ .f32 0x3F800000#32))
    (Host.divf (Host.negf (Host.reduceAdd (mulf (freq x) (logFreq x)) (constant S_ .f32 0x00000000#32) reducesTo_S256x21_S256_d1 h_S_))
      (broadcastInDim S256 ![] bcast_S_S256 (mulf (Host.log (constant S_ .f32 0x41A80000#32))
        (broadcastInDim S_ ![] bcast_S_S_ (constant S_ .f32 0x3FB8AA3B#32)))))

/-- The joint frequencies of two letters at two positions. -/
def pairFreq : FVec Ideal S256x256x21x21 .f32 :=
  addf (Host.divf (transpose S256x256x21x21 [2, 0, 3, 1]
      (Host.dotGeneral dot_S512x256x21_S512x256x21_S256x21x256x21_0_0_12_12_n_n none x x) transposes_S256x21x256x21_S256x256x21x21_2_0_3_1)
    (broadcastInDim S256x256x21x21 ![] bcast_S_S256x256x21x21 (constant S_ .f32 0x44000000#32)))
    (broadcastInDim S256x256x21x21 ![] bcast_S_S256x256x21x21 (constant S_ .f32 0x3089705F#32))

/-- The mutual information, zero on the diagonal. -/
def info : FVec Ideal S256x256 .f32 :=
  mulf (subf (subf
      (Host.reduceAdd (mulf (pairFreq x) (mulf (Host.log (pairFreq x))
        (broadcastInDim S256x256x21x21 ![] bcast_S_S256x256x21x21 (constant S_ .f32 0x3FB8AA3B#32))))
        (constant S_ .f32 0x00000000#32) reducesTo_S256x256x21x21_S256x256_d2_3 h_S_)
      (Host.dotGeneral dot_S256x256x21_S256x21_S256x256_2_1_1_n_0_0 none
        (Host.reduceAdd (pairFreq x) (constant S_ .f32 0x00000000#32) reducesTo_S256x256x21x21_S256x256x21_d3 h_S_) (logFreq x)))
      (transpose S256x256 [1, 0] (Host.dotGeneral dot_S256x21_S256x256x21_S256x256_1_2_n_0_0_1 none (logFreq x)
        (Host.reduceAdd (pairFreq x) (constant S_ .f32 0x00000000#32) reducesTo_S256x256x21x21_S256x256x21_d2 h_S_))
        transposes_S256x256_S256x256_1_0))
    (subf (broadcastInDim S256x256 ![] bcast_S_S256x256 (constant S_ .f32 0x3F800000#32))
      (uitofp .f32 (cmpi .eq (addi (iotaInDim S256x256 32 0) (broadcastInDim S256x256 ![] bcast_S_S256x256 (constantI S_ 32 0#32)))
        (iotaInDim S256x256 32 1))))

/-- The third result: the information corrected by the product of its row and column means over its mean. -/
def coevolution : FVec Ideal S256x256 .f32 :=
  subf (info x) (Host.divf
    (mulf (broadcastInDim S256x256 ![0, 1] bcast_S256x1_S256x256_0_1 (broadcastInDim S256x1 ![0] bcast_S256_S256x1_0
        (Host.divf (Host.reduceAdd (info x) (constant S_ .f32 0x00000000#32) reducesTo_S256x256_S256_d1 h_S_)
          (broadcastInDim S256 ![] bcast_S_S256 (constant S_ .f32 0x43800000#32)))))
      (broadcastInDim S256x256 ![0, 1] bcast_S1x256_S256x256_0_1 (broadcastInDim S1x256 ![1] bcast_S256_S1x256_1
        (Host.divf (Host.reduceAdd (info x) (constant S_ .f32 0x00000000#32) reducesTo_S256x256_S256_d0 h_S_)
          (broadcastInDim S256 ![] bcast_S_S256 (constant S_ .f32 0x43800000#32))))))
    (broadcastInDim S256x256 ![] bcast_S_S256x256
      (addf (Host.divf (Host.reduceAdd (info x) (constant S_ .f32 0x00000000#32) reducesTo_S256x256_S_d0_1 h_S_)
        (constant S_ .f32 0x47800000#32)) (constant S_ .f32 0x3089705F#32))))

/-- The mean at an index is the letter's count over the number of sequences. -/
theorem mean_apply (i : Fin 256) (a : Fin 21) : mean x (ix2 i a) = over (cnt x i a) := by
  unfold cnt
  pointwise [mean, every]

/-- The logarithm at an index. -/
theorem logFreq_apply (i : Fin 256) (a : Fin 21) : logFreq x (ix2 i a)
    = Ideal.log (over (cnt x i a) + Ideal.ofBits .f32 0x3089705F#32) * Ideal.ofBits .f32 0x3FB8AA3B#32 := by
  pointwise [logFreq, freq, every, mean_apply]

/-- A joint frequency is the pair's count over the number of sequences, with the small number. -/
theorem pairFreq_apply (i j : Fin 256) (a b : Fin 21) :
    pairFreq x (ix4 i j a b) = over (both x i j a b) + Ideal.ofBits .f32 0x3089705F#32 := by
  unfold both
  pointwise [pairFreq]
  exact congrArg (fun z => over z + Ideal.ofBits .f32 0x3089705F#32) (Finset.sum_congr rfl fun k _ => mul_comm _ _)

/-- One less the identity matrix's entry. -/
theorem off_diagonal (i j : Fin 256) :
    (1 : EReal) - FloatOps.uitofp (F := Ideal) .f32 (IntOp.cmpi .eq (IntOp.addi (BitVec.ofNat 32 i.val) 0#32) (BitVec.ofNat 32 j.val))
      = if i = j then 0 else 1 := by
  rw [show IntOp.addi (BitVec.ofNat 32 i.val) 0#32 = BitVec.ofNat 32 i.val from BitVec.add_zero _,
    WordCmp.cmpi_eq_ofNat (by omega) (by omega)]
  by_cases h : i = j
  · simp only [h, decide_true, if_true]
    show ((1 : ℝ) : EReal) - (((1#1).toNat : ℝ) : EReal) = 0
    rw [← EReal.coe_sub]; simp
  · have h' : ¬i.val = j.val := fun e => h (Fin.ext e)
    simp only [h, h', decide_false, if_false]
    show ((1 : ℝ) : EReal) - (((0#1).toNat : ℝ) : EReal) = 1
    rw [← EReal.coe_sub]; simp

/-- The information of two positions as sums over their letters. -/
theorem info_apply (i j : Fin 256) : info x (ix2 i j) = if i = j then 0 else
    (∑ a : Fin 21, ∑ b : Fin 21, pairFreq x (ix4 i j a b) * (Ideal.log (pairFreq x (ix4 i j a b)) * Ideal.ofBits .f32 0x3FB8AA3B#32))
      - (∑ a : Fin 21, (∑ b : Fin 21, pairFreq x (ix4 i j a b)) * logFreq x (ix2 i a))
      - ∑ b : Fin 21, (∑ a : Fin 21, pairFreq x (ix4 i j a b)) * logFreq x (ix2 j b) := by
  pointwise [info]
  rw [off_diagonal]
  by_cases h : i = j
  · rw [if_pos h, if_pos h, mul_zero]
  · rw [if_neg h, if_neg h, mul_one]
    refine congrArg₂ (fun a b : EReal => a - b) rfl ?_
    exact (Finset.sum_congr rfl fun b _ => mul_comm _ _)

/-- An entry of the first result. -/
theorem pssm_apply (i : Fin 256) (a : Fin 21) : pssm x (ix2 i a) = Ideal.log (Ideal.div (Ideal.div (over (cnt x i a) + Ideal.ofBits .f32 0x3A83126F#32)
      (∑ b : Fin 21, (over (cnt x i b) + Ideal.ofBits .f32 0x3A83126F#32))) (Ideal.ofBits .f32 0x3D430C31#32)) * Ideal.ofBits .f32 0x3FB8AA3B#32 := by
  pointwise [pssm, smoothed, every, mean_apply]

/-- An entry of the second result. -/
theorem conservation_apply (i : Fin 256) : conservation x (ix1 i)
    = 1 - Ideal.div (-∑ a : Fin 21, (over (cnt x i a) + Ideal.ofBits .f32 0x3089705F#32) * logFreq x (ix2 i a))
        (Ideal.log (Ideal.ofBits .f32 0x41A80000#32) * Ideal.ofBits .f32 0x3FB8AA3B#32) := by
  pointwise [conservation, freq, every, mean_apply]

/-- The third result from the information's entries. -/
theorem coevolution_apply (i j : Fin 256) : coevolution x (ix2 i j) = corrected (info x) i j := by
  unfold corrected
  pointwise [coevolution]

/-- The composed term of the reference's third result is the one named here. -/
theorem third (m : (ℓ : Loc nD τ sig) → Buf (Elt Ideal) ℓ) (c : Dev nD) :
    Value.res_main_v83 m c = coevolution (m ((c.tc : Thread nD τ).loc main_arg0)) := rfl

end Cert.ReferenceIdeal.Hand

end
-- ==== Proof.Rows.lean ====
/- What the precondition says over the extended reals: the entries are real numbers and each row of letters sums to one. -/
module

public import proofs.«01_k».proof.Defs
public import proofs.«01_k».proof.Proof.Gen.Pre_normalized
public import Idealize.ShloMosaic.Lib.Pointwise

@[expose] public section

set_option maxRecDepth 16384

noncomputable section

namespace Cert.Pre_normalized.Hand

open Idealize.ShloMosaic Cert.Pre_normalized Cert.Pre_normalized.Gen

/-- An array of real numbers whose rows of letters sum to one. -/
def RealRows (x : FVec Ideal S512x256x21 .f32) : Prop :=
  ∃ r : Fin 512 → Fin 256 → Fin 21 → ℝ, (∀ k i a, x (ix3 k i a) = (r k i a : EReal)) ∧ ∀ k i, ∑ a, r k i a = 1

/-- The embedding of the reals keeps finite sums. -/
theorem coe_sum {n : ℕ} (f : Fin n → ℝ) : ((∑ a, f a : ℝ) : EReal) = ∑ a, (f a : EReal) :=
  map_sum (⟨⟨Real.toEReal, EReal.coe_zero⟩, EReal.coe_add⟩ : ℝ →+ EReal) f Finset.univ

/-- A sum that is one has real terms only: an infinite term makes the sum infinite. -/
theorem real_of_sum {n : ℕ} (f : Fin n → EReal) (h : ∑ a, f a = 1) (a : Fin n) : ((f a).toReal : EReal) = f a := by
  have e : f a + ∑ b ∈ Finset.univ.erase a, f b = 1 := (Finset.add_sum_erase _ f (Finset.mem_univ a)).trans h
  refine EReal.coe_toReal ?_ ?_
  · intro t
    rw [t] at e
    generalize ∑ b ∈ Finset.univ.erase a, f b = rest at e
    induction rest <;> simp at e <;> exact absurd e (by decide)
  · intro t
    rw [t, EReal.bot_add] at e
    exact absurd e (by decide)

/-- The precondition's arrays are such. -/
theorem rows_of_pre (x : FVec Ideal S512x256x21 .f32) (h : fn (F := Ideal) x = fun _ => 1#1) : RealRows x := by
  have key : ∀ (k : Fin 512) (i : Fin 256), ∑ b : Fin 21, x (ix3 k i b) = 1 := by
    intro k i
    have e := congrFun h (ix2 k i)
    pointwise [fn] at e
    by_contra n
    rw [decide_eq_false n] at e
    exact absurd e (by decide)
  have real := fun k i => real_of_sum _ (key k i)
  refine ⟨fun k i a => (x (ix3 k i a)).toReal, fun k i a => (real k i a).symm, fun k i => ?_⟩
  have s := key k i
  rw [← Finset.sum_congr rfl (fun b _ => real k i b), ← coe_sum] at s
  exact_mod_cast s

end Cert.Pre_normalized.Hand

end
-- ==== Proof.Consts.lean ====
/- The constants both programs spell, as the real numbers they denote, and the kernel's three named constants. -/
module

public import proofs.«01_k».proof.KernelIdeal
public import Idealize.ShloMosaic.PureOps.IdealRules

@[expose] public section

noncomputable section

namespace Cert.Consts

open Idealize.ShloMosaic

/-- The small number added before a logarithm. -/
theorem small : Ideal.ofBits .f32 0x3089705F#32 = ((9007199 / 9007199254740992 : ℝ) : EReal) := by
  simp [Ideal.ofBits, Ideal.ieee, -EReal.coe_mul]; norm_num
/-- The number of sequences. -/
theorem seqs : Ideal.ofBits .f32 0x44000000#32 = ((512 : ℝ) : EReal) := by
  simp [Ideal.ofBits, Ideal.ieee, -EReal.coe_mul]; norm_num
/-- Its reciprocal, exact in binary. -/
theorem inv_seqs : Ideal.ofBits .f32 0x3B000000#32 = ((1 / 512 : ℝ) : EReal) := by
  simp [Ideal.ofBits, Ideal.ieee, -EReal.coe_mul]; norm_num
/-- The background probability of a letter, as a 32-bit float. -/
theorem background : Ideal.ofBits .f32 0x3D430C31#32 = ((12782641 / 268435456 : ℝ) : EReal) := by
  simp [Ideal.ofBits, Ideal.ieee, -EReal.coe_mul]; norm_num
/-- The number of letters. -/
theorem letters : Ideal.ofBits .f32 0x41A80000#32 = ((21 : ℝ) : EReal) := by
  simp [Ideal.ofBits, Ideal.ieee, -EReal.coe_mul]; norm_num
/-- The factor from natural logarithms to binary ones, as a 32-bit float. -/
theorem log2e : Ideal.ofBits .f32 0x3FB8AA3B#32 = ((12102203 / 8388608 : ℝ) : EReal) := by
  simp [Ideal.ofBits, Ideal.ieee, -EReal.coe_mul]; norm_num

/-- The row's small number is 21 times the small number. -/
theorem eps_row : Named.named (F := Ideal) Cert.KernelIdeal.κ "eps_row" (φ := .f32) 0x32B4637D#32
    = ((189151179 / 9007199254740992 : ℝ) : EReal) := IdealRules.named_const.ideal_named_scalar _ _ _ _ rfl
/-- The reciprocal of the background probability. -/
theorem inv_background : Named.named (F := Ideal) Cert.KernelIdeal.κ "inv_background" (φ := .f32) 0x41A80000#32
    = ((268435456 / 12782641 : ℝ) : EReal) := IdealRules.named_const.ideal_named_scalar _ _ _ _ rfl
/-- The reciprocal of the binary logarithm of the number of letters. -/
theorem inv_log2_a : Named.named (F := Ideal) Cert.KernelIdeal.κ "inv_log2_a" (φ := .f32) 0x3E692264#32
    = (((Real.log 21)⁻¹ * (8388608 / 12102203) : ℝ) : EReal) := IdealRules.named_const.ideal_named_scalar _ _ _ _ rfl

end Cert.Consts

end
-- ==== Proof.Equation.lean ====
/- The kernel's three results are the reference's, entry by entry. -/
module

public import proofs.«01_k».proof.Proof.Blocks
public import proofs.«01_k».proof.Proof.Reference
public import proofs.«01_k».proof.Proof.Rows
public import proofs.«01_k».proof.Proof.Consts

@[expose] public section

set_option maxRecDepth 16384

noncomputable section

namespace Cert.Equation

open Idealize.ShloMosaic Idealize.ShloMosaic.TcCoe Idealize.SL Idealize.SL.Sem
open Cert.KernelIdeal Cert.KernelIdeal.Gen Cert.KernelIdeal.Hand Cert.Letters
open Cert.Pre_normalized.Hand (RealRows coe_sum)

/-- The kernel's factor 1/512 is the reference's division by 512. -/
theorem scaled (z : EReal) : z * Ideal.ofBits .f32 0x3B000000#32 = over z := by
  rw [Consts.inv_seqs, over, Consts.seqs, Ideal.div_coe (by norm_num)]

/-- One pair of letters' contribution. -/
theorem ent_eq (z : EReal) : ent z = (over z + Ideal.ofBits .f32 0x3089705F#32) * (Ideal.log (over z + Ideal.ofBits .f32 0x3089705F#32) * Ideal.ofBits .f32 0x3FB8AA3B#32) := by
  rw [ent, scaled]

section Kernel
variable {X : Vec Ideal S4x1344x512 .bf16} {x : Alignment} (h : Rearranged X x)
include h

/-- The kernel's frequencies are the counts over the number of sequences, -/
theorem pay9_apply (i : Fin 256) (a : Fin 21) : k0_pay9 (F := Ideal) (countsOf X) (ix2 i a) = over (cnt x i a) := by
  rw [← scaled, ← countsOf_apply h]
  pointwise [k0_pay9]

/-- and their logarithms are the reference's. -/
theorem pay12_apply (i : Fin 256) (a : Fin 21) : k0_pay12 (F := Ideal) (countsOf X) (ix2 i a) = ReferenceIdeal.Hand.logFreq x (ix2 i a) := by
  rw [ReferenceIdeal.Hand.logFreq_apply]
  pointwise [k0_pay12, k0_pay11, pay9_apply h]

/-- The first result. -/
theorem pssm_eq : pssmOf X = ReferenceIdeal.Hand.pssm x := by
  funext y
  idx_vars y
  rw [ReferenceIdeal.Hand.pssm_apply]
  unfold pssmOf
  pointwise [k0_pay10, pay9_apply h]
  rw [Consts.inv_background, Consts.background, Ideal.div_coe (y := 12782641 / 268435456) (by norm_num)]
  norm_num

/-- A position's own term. -/
theorem own_apply (i : Fin 256) : k0_pay14 (F := Ideal) (countsOf X) (ix2 i 0)
    = ∑ a : Fin 21, (over (cnt x i a) + ((189151179 / 9007199254740992 : ℝ) : EReal)) * ReferenceIdeal.Hand.logFreq x (ix2 i a) := by
  pointwise [k0_pay14, pay9_apply h, pay12_apply h]
  rw [Consts.eps_row]

/-- The second result. -/
theorem conservation_eq (i : Fin 256) : consOf X (ix2 0 i) = ReferenceIdeal.Hand.conservation x (ix1 i) := by
  rw [ReferenceIdeal.Hand.conservation_apply]
  unfold consOf
  pointwise [k0_pay13, k0_pay11, pay9_apply h, pay12_apply h]
  rw [Consts.inv_log2_a, Consts.letters, Consts.log2e]
  have hl : Real.log 21 * (12102203 / 8388608) ≠ 0 := mul_ne_zero (Real.log_pos (by norm_num)).ne' (by norm_num)
  rw [Ideal.log_coe, if_neg (by norm_num), ← EReal.coe_mul, Ideal.div_coe hl, EReal.neg_mul, sub_eq_add_neg, neg_neg]
  congr 3
  rw [one_div, mul_inv]
  norm_num

end Kernel

/-- Summed over the second letter, the joint frequencies are the first letter's own. -/
theorem marginal {x : Alignment} (hx : RealRows x) (i j : Fin 256) (a : Fin 21) :
    ∑ b : Fin 21, (over (both x i j a b) + Ideal.ofBits .f32 0x3089705F#32) = over (cnt x i a) + ((189151179 / 9007199254740992 : ℝ) : EReal) := by
  obtain ⟨r, hr, hs⟩ := hx
  unfold both cnt over
  rw [Consts.small, Consts.seqs]
  simp only [Ideal.div_coe (y := 512) (by norm_num), hr, ← EReal.coe_mul, ← coe_sum, ← EReal.coe_add]
  congr 1
  rw [Finset.sum_add_distrib, ← Finset.sum_mul, Finset.sum_comm]
  simp only [← Finset.mul_sum, hs, mul_one]
  norm_num

/-- The kernel's correction of its scores. -/
theorem coevOf_apply (cnt : Vec Ideal S256x128 .f32) (T : Fin 10 → Vec Ideal S1x64x64 .f32) (i j : Fin 256) :
    coevOf cnt T (ix2 i j) = corrected (scoreOf cnt T) i j := by
  unfold corrected scoreOf coevOf
  pointwise [k0_pay2, k0_pay22, k0_pay23, scoreOf]

/-- Likewise over the first letter. -/
theorem marginal' {x : Alignment} (hx : RealRows x) (i j : Fin 256) (b : Fin 21) :
    ∑ a : Fin 21, (over (both x i j a b) + Ideal.ofBits .f32 0x3089705F#32)
      = over (cnt x j b) + ((189151179 / 9007199254740992 : ℝ) : EReal) := by
  rw [← marginal hx j i b]
  refine Finset.sum_congr rfl fun a _ => ?_
  rw [both_comm]

/-- The kernel's score of two positions is their information. -/
theorem score_eq {X : Vec Ideal S4x1344x512 .bf16} {x : Alignment} (h : Rearranged X x) (hx : RealRows x) :
    scoreOf (countsOf X) (tileAt X) = ReferenceIdeal.Hand.info x := by
  funext y
  idx_vars y
  rw [scoreOf_apply _ _ _ (tileAt_upper h) (joint_symm x), ReferenceIdeal.Hand.info_apply, own_apply h, own_apply h]
  simp only [ReferenceIdeal.Hand.pairFreq_apply, marginal hx, marginal' hx, joint, ent_eq]

/-- The third result. -/
theorem coevolution_eq {X : Vec Ideal S4x1344x512 .bf16} {x : Alignment} (h : Rearranged X x) (hx : RealRows x) :
    coOf X = ReferenceIdeal.Hand.coevolution x := by
  funext y
  idx_vars y
  rw [ReferenceIdeal.Hand.coevolution_apply, coOf, coevOf_apply, score_eq h hx]

end Cert.Equation

end
-- ==== Proof.Results.lean ====
/- What a run of the kernel leaves in its three results. -/
module

public import proofs.«01_k».proof.Proof.Equation

@[expose] public section

noncomputable section

namespace Cert.Results

open Idealize.ShloMosaic Idealize.ShloMosaic.TcCoe Idealize.SL Idealize.SL.Sem
open Cert.KernelIdeal Cert.KernelIdeal.Gen Cert.KernelIdeal.Hand

variable (m : (ℓ : Loc nD τ sig) → Buf (Elt Ideal) ℓ) (c : Dev nD)

/-- The first result is the reference's scoring matrix. -/
theorem first : (dats m 0 c).arrAt 1 (cfgs 0).N = ReferenceIdeal.Hand.pssm (m (c.tc.loc main_arg0)) :=
  (final1 m c).trans (Equation.pssm_eq (inp_rearranged m c))

/-- The second result is the reference's conservation. -/
theorem second : Pipeline.afterTail₀ cfgs (dats m) 0 (V0 m) [hostOps1] c main_v5
    = ReferenceIdeal.Hand.conservation (m (c.tc.loc main_arg0)) := by
  have h : Pipeline.withArrays (cfgs 0).spec c (V0 m c) (fun w => (dats m 0 c).arrAt w (cfgs 0).N)
      (Proc.devRef .tc main_v4_1) = consOf (inp m c) :=
    (Pipeline.withArrays_arr (cfgs 0).spec launch0.win.arr_inj c (V0 m c) _ 2).trans (final2 m c)
  funext y
  idx_vars y
  rw [← Equation.conservation_eq (inp_rearranged m c), ← h]
  show StableHlo.after hostOps1 (Pipeline.withArrays (cfgs 0).spec c (V0 m c) fun w => (dats m 0 c).arrAt w (cfgs 0).N)
    (Proc.devRef .tc main_v5) (ix1 y0) = _
  unfold hostOps1
  after_results
  pointwise []

/-- The third result is the reference's coevolution where every row of letters sums to one. -/
theorem third (h : Pre_normalized.fn (F := Ideal) (m (c.tc.loc main_arg0)) = fun _ => 1#1) :
    (dats m 0 c).arrAt 3 (cfgs 0).N = ReferenceIdeal.Hand.coevolution (m (c.tc.loc main_arg0)) :=
  (final3 m c).trans (Equation.coevolution_eq (inp_rearranged m c) (Pre_normalized.Hand.rows_of_pre _ h))

end Cert.Results

end
-- ==== Proof.lean ====
/- The proof of the claim, assembled: the frames, what the named constants say, and the three results. -/
module

public import proofs.«01_k».proof.Defs
public import proofs.«01_k».proof.Proof.Frames
public import proofs.«01_k».proof.Proof.Results
public import proofs.«01_k».proof.Proof.Gen.Pre_normalized
public import Idealize.ShloMosaic.Lib.Claim
public import Idealize.ShloMosaic.Lib.Quiescent

@[expose] public section

noncomputable section

namespace Cert.Proof

open Idealize.ShloMosaic Idealize.SL.Sem

/-- The three named constants are what the kernel's table says. -/
theorem preserves : Cert.preserves_Kernel_KernelIdeal :=
  ⟨IdealRules.named_const.statement _ _ _ _ _ rfl, IdealRules.named_const.statement _ _ _ _ _ rfl,
    IdealRules.named_const.statement _ _ _ _ _ rfl⟩

/-- Where the alignment's rows of letters sum to one, the kernel's three results are the reference's. -/
theorem algebraic : Cert.algebraic_KernelIdeal_ReferenceIdeal_pre_normalized := by
  pair_intro
  · run_from Cert.KernelIdeal.Hand.run_main m g
    exact Cert.KernelIdeal.Gen.W_main_arg0 m (Cert.KernelIdeal.Hand.dats m) c
  · refine (θ_run Cert.ReferenceIdeal.defs _ _).mono (fun r h c => ?_) (Cert.ReferenceIdeal.Value.run (F := Ideal) m' g')
    obtain ⟨h1, h2, h3, h4⟩ := h c
    refine ⟨h1.trans ?_, h2.trans ?_, h3.trans ?_, h4⟩
    · rw [hagree c]; exact (Cert.Results.first m c).symm
    · rw [hagree c]; exact (Cert.Results.second m c).symm
    · rw [Cert.ReferenceIdeal.Hand.third, hagree c]; exact (Cert.Results.third m c (hpre c)).symm

/-- The whole claim. -/
theorem claim : Cert.Claim :=
  ⟨Cert.Kernel.Gen.facts, Cert.KernelIdeal.Gen.facts, Cert.ReferenceIdeal.Gen.facts, Cert.Pre_normalized.Gen.facts,
    Cert.Frames.kernel, Cert.Frames.kernelIdeal, Cert.Frames.kernelIdeal_pre, Cert.Frames.referenceIdeal,
    Cert.Frames.referenceIdeal_pre, preserves, algebraic⟩

end Cert.Proof

end
